-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_sorted_labels [hPre_sorted_labels : Cert.Pre_sorted_labels.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_labels [hPre_sorted_labels : Cert.Pre_sorted_labels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sorted_labels [hKernelIdeal : Cert.KernelIdeal.Facts] [hPre_sorted_labels : Cert.Pre_sorted_labels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_labels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sorted_labels [hReferenceIdeal : Cert.ReferenceIdeal.Facts] [hPre_sorted_labels : Cert.Pre_sorted_labels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_labels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_sorted_labels [hKernelIdeal : Cert.KernelIdeal.Facts] [hReferenceIdeal : Cert.ReferenceIdeal.Facts] [hPre_sorted_labels : Cert.Pre_sorted_labels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_labels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_in_range : Cert.Pre_labels_in_range.Facts) (hPre_sorted_labels : Cert.Pre_sorted_labels.Facts),
    quiescent_Kernel (hKernel := hKernel) (hPre_labels_in_range := hPre_labels_in_range)
    ∧ quiescent_KernelIdeal (hKernelIdeal := hKernelIdeal) (hPre_labels_in_range := hPre_labels_in_range)
    ∧ quiescent_KernelIdeal_pre_sorted_labels (hKernelIdeal := hKernelIdeal) (hPre_sorted_labels := hPre_sorted_labels)
    ∧ quiescent_ReferenceIdeal (hReferenceIdeal := hReferenceIdeal)
    ∧ quiescent_ReferenceIdeal_pre_sorted_labels (hReferenceIdeal := hReferenceIdeal) (hPre_sorted_labels := hPre_sorted_labels)
    ∧ preserves_Kernel_KernelIdeal
    ∧ algebraic_KernelIdeal_ReferenceIdeal_pre_sorted_labels (hKernelIdeal := hKernelIdeal) (hReferenceIdeal := hReferenceIdeal) (hPre_sorted_labels := hPre_sorted_labels)
-- ==== Pre_labels_in_range.lean ====
abbrev S16384x64 : Shape := ⟨2, ![16384, 64]⟩
abbrev S16384 : Shape := ⟨1, ![16384]⟩
abbrev S16384x2 : Shape := ⟨2, ![16384, 2]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x64 .f32) (main_arg1 : IVec S16384 32) (main_arg2 : FVec F S16384x2 .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 32#32
  let main_v3 : IVec S16384 32 := broadcastInDim S16384 ![] bcast_S_S16384 main_c_1
  let main_v4 : IVec S16384 1 := cmpi .slt main_arg1 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  main_v6
-- ==== Pre_sorted_labels.lean ====
abbrev S16384x64 : Shape := ⟨2, ![16384, 64]⟩
abbrev S16384 : Shape := ⟨1, ![16384]⟩
abbrev S16384x2 : Shape := ⟨2, ![16384, 2]⟩
abbrev S_ : Shape := ⟨0, ![]⟩
abbrev S16383 : Shape := ⟨1, ![16383]⟩

class Facts : Prop where
  bcast_S_S16384 : S_.BroadcastsInDim S16384 (![] : Fin 0 → Fin S16384.rank)
  reducesTo_S16384_S_d0 : S16384.ReducesTo [0] S_
  h_S_ : 0 < S_.numel
  slices_S16384_S16383_0 : S16384.Slices ![0] S16383
  slices_S16384_S16383_1 : S16384.Slices ![1] S16383
  reducesTo_S16383_S_d0 : S16383.ReducesTo [0] S_

variable [Facts]

def fn {F : FTy → Type} [FloatOps F] (main_arg0 : FVec F S16384x64 .f32) (main_arg1 : IVec S16384 32) (main_arg2 : FVec F S16384x2 .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 32#32
  let main_v3 : IVec S16384 32 := broadcastInDim S16384 ![] bcast_S_S16384 main_c_1
  let main_v4 : IVec S16384 1 := cmpi .slt main_arg1 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_v7 : IVec S16383 32 := (extractStridedSlice S16383 ![0] · slices_S16384_S16383_0) main_arg1
  let main_v8 : IVec S16383 32 := (extractStridedSlice S16383 ![1] · slices_S16384_S16383_1) main_arg1
  let main_v9 : IVec S16383 1 := cmpi .sle main_v7 main_v8
  let main_c_3 : IVec S_ 1 := constantI S_ 1 1#1
  let main_v10 : IVec S_ 1 := (fun x v => Host.reduce IntOp.andi x v reducesTo_S16383_S_d0 h_S_) main_v9 main_c_3
  let main_v11 : IVec S_ 1 := andi main_v6 main_v10
  main_v11
-- ==== Kernel.lean ====
abbrev S16384x64 : Shape := ⟨2, ![16384, 64]⟩
abbrev S16384 : Shape := ⟨1, ![16384]⟩
abbrev S16384x2 : Shape := ⟨2, ![16384, 2]⟩
abbrev S16384x1 : Shape := ⟨2, ![16384, 1]⟩
abbrev S64x1 : Shape := ⟨2, ![64, 1]⟩
abbrev S64x64 : Shape := ⟨2, ![64, 64]⟩
abbrev S64x64x64 : Shape := ⟨3, ![64, 64, 64]⟩
abbrev S1024x1 : Shape := ⟨2, ![1024, 1]⟩
abbrev S1024x64 : Shape := ⟨2, ![1024, 64]⟩
abbrev S1024x2 : Shape := ⟨2, ![1024, 2]⟩
abbrev S1x1 : Shape := ⟨2, ![1, 1]⟩
abbrev S1024x65 : Shape := ⟨2, ![1024, 65]⟩
abbrev S64x65 : Shape := ⟨2, ![64, 65]⟩
abbrev S1024x128 : Shape := ⟨2, ![1024, 128]⟩
abbrev S128x64 : Shape := ⟨2, ![128, 64]⟩
abbrev S1x64x64 : Shape := ⟨3, ![1, 64, 64]⟩
abbrev S64x1x1 : Shape := ⟨3, ![64, 1, 1]⟩
abbrev S64x64x1 : Shape := ⟨3, ![64, 64, 1]⟩
abbrev S64x1x64 : Shape := ⟨3, ![64, 1, 64]⟩
abbrev S64 : Shape := ⟨1, ![64]⟩

abbrev nBuf : Space → Nat
  | .hbm => 8
  | .vmem => 9
  | .smem => 0
  | _ => 0

abbrev bufTy : (tb : Table) → Fin (tcTables nBuf tb) → BufTy
  | .hbm, ⟨0, _⟩ => ⟨S16384x64, .f32⟩
  | .hbm, ⟨1, _⟩ => ⟨S16384, .i32⟩
  | .hbm, ⟨2, _⟩ => ⟨S16384x2, .f32⟩
  | .hbm, ⟨3, _⟩ => ⟨S16384x1, .i32⟩
  | .hbm, ⟨4, _⟩ => ⟨S64x1, .f32⟩
  | .hbm, ⟨5, _⟩ => ⟨S64x64, .f32⟩
  | .hbm, ⟨6, _⟩ => ⟨S64x64x64, .f32⟩
  | .hbm, ⟨7, _⟩ => ⟨S64, .f32⟩
  | .local _ .vmem, ⟨0, _⟩ => ⟨S1024x1, .i32⟩
  | .local _ .vmem, ⟨1, _⟩ => ⟨S1024x1, .i32⟩
  | .local _ .vmem, ⟨2, _⟩ => ⟨S1024x64, .f32⟩
  | .local _ .vmem, ⟨3, _⟩ => ⟨S1024x64, .f32⟩
  | .local _ .vmem, ⟨4, _⟩ => ⟨S1024x2, .f32⟩
  | .local _ .vmem, ⟨5, _⟩ => ⟨S1024x2, .f32⟩
  | .local _ .vmem, ⟨6, _⟩ => ⟨S64x1, .f32⟩
  | .local _ .vmem, ⟨7, _⟩ => ⟨S64x64, .f32⟩
  | .local _ .vmem, ⟨8, _⟩ => ⟨S64x64x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

@[reducible] def k0_t1_loop (v8 : BitVec 32) (v10 : BitVec 32) : Scf.Loop 32 :=
  let c0_i32_37 : BitVec 32 := 0#32
  let v85 : BitVec 32 := Scalar.subi v10 v8
  let c2_i32_28 : BitVec 32 := 2#32
  let v86 : BitVec 32 := Scalar.addi v85 c2_i32_28
  let c0_i32_30 : BitVec 32 := 0#32
  let v88 : BitVec 1 := Scalar.cmpi .sgt v86 c0_i32_30
  let v89 : BitVec 32 := Scalar.extui v88
  let c0_i32_31 : BitVec 32 := 0#32
  let v90 : BitVec 1 := Scalar.cmpi .slt v86 c0_i32_31
  let v91 : BitVec 32 := Scalar.extui v90
  let v92 : BitVec 32 := Scalar.subi v89 v91
  let c2_i32_29 : BitVec 32 := 2#32
  let c0_i32_32 : BitVec 32 := 0#32
  let v93 : BitVec 1 := Scalar.cmpi .sgt c2_i32_29 c0_i32_32
  let v94 : BitVec 32 := Scalar.extui v93
  let c0_i32_33 : BitVec 32 := 0#32
  let v95 : BitVec 1 := Scalar.cmpi .slt c2_i32_29 c0_i32_33
  let v96 : BitVec 32 := Scalar.extui v95
  let v97 : BitVec 32 := Scalar.subi v94 v96
  let v98 : BitVec 1 := Scalar.cmpi .ne v92 v97
  let v99 : BitVec 32 := Scalar.remsi v86 c2_i32_29
  let c0_i32_34 : BitVec 32 := 0#32
  let v100 : BitVec 1 := Scalar.cmpi .ne v99 c0_i32_34
  let v101 : BitVec 1 := Scalar.andi v98 v100
  let v87 : BitVec 32 := Scalar.divsi v86 c2_i32_29
  let c1_i32_35 : BitVec 32 := 1#32
  let v102 : BitVec 32 := Scalar.subi v87 c1_i32_35
  let v103 : BitVec 32 := Scalar.select v101 v102 v87
  let v104 : BitVec 32 := Scalar.subi v103 c0_i32_37
  let c1_i32_38 : BitVec 32 := 1#32
  let v106 : BitVec 32 := Scalar.divsi v104 c1_i32_38
  let v107 : BitVec 32 := Scalar.muli v106 c1_i32_38
  let v108 : BitVec 32 := Scalar.addi c0_i32_37 v107
  let c1_i32_39 : BitVec 32 := 1#32
  ⟨c0_i32_37, v108, c1_i32_39⟩

def k0_off1 (v8 : BitVec 32) (v10 : BitVec 32) (k0_t1 : Fin (k0_t1_loop v8 v10).trips) (c0_i32_43 : BitVec 32) (c0_i32_47 : BitVec 32) : Fin 3 → Nat :=
  let c0_i32_37 : BitVec 32 := 0#32
  let c1_i32_39 : BitVec 32 := 1#32
  let arg7 : BitVec 32 := Scf.iv c0_i32_37 c1_i32_39 k0_t1
  let c2_i32_42 : BitVec 32 := 2#32
  let v112 : BitVec 32 := Scalar.muli arg7 c2_i32_42
  let v113 : BitVec 32 := Scalar.addi v8 v112
  let v114 : BitVec 32 := Scalar.addi v113 c0_i32_43
  let c31_i32 : BitVec 32 := 31#32
  let v122 : BitVec 32 := Scalar.minsi v114 c31_i32
  let c2_i32_46 : BitVec 32 := 2#32
  let v123 : BitVec 32 := Scalar.muli v122 c2_i32_46
  let v124 : BitVec 32 := Scalar.addi v123 c0_i32_47
  let v125 : Index := Scalar.indexCast v124
  let c0_48 : Index := 0#32
  let c0_49 : Index := 0#32
  ![v125.toNat, 0, 0]
@[reducible] def k0_t2_loop (v8 : BitVec 32) (v10 : BitVec 32) : Scf.Loop 32 :=
  let c0_i32_37 : BitVec 32 := 0#32
  let v85 : BitVec 32 := Scalar.subi v10 v8
  let c2_i32_28 : BitVec 32 := 2#32
  let v86 : BitVec 32 := Scalar.addi v85 c2_i32_28
  let c0_i32_30 : BitVec 32 := 0#32
  let v88 : BitVec 1 := Scalar.cmpi .sgt v86 c0_i32_30
  let v89 : BitVec 32 := Scalar.extui v88
  let c0_i32_31 : BitVec 32 := 0#32
  let v90 : BitVec 1 := Scalar.cmpi .slt v86 c0_i32_31
  let v91 : BitVec 32 := Scalar.extui v90
  let v92 : BitVec 32 := Scalar.subi v89 v91
  let c2_i32_29 : BitVec 32 := 2#32
  let c0_i32_32 : BitVec 32 := 0#32
  let v93 : BitVec 1 := Scalar.cmpi .sgt c2_i32_29 c0_i32_32
  let v94 : BitVec 32 := Scalar.extui v93
  let c0_i32_33 : BitVec 32 := 0#32
  let v95 : BitVec 1 := Scalar.cmpi .slt c2_i32_29 c0_i32_33
  let v96 : BitVec 32 := Scalar.extui v95
  let v97 : BitVec 32 := Scalar.subi v94 v96
  let v98 : BitVec 1 := Scalar.cmpi .ne v92 v97
  let v99 : BitVec 32 := Scalar.remsi v86 c2_i32_29
  let c0_i32_34 : BitVec 32 := 0#32
  let v100 : BitVec 1 := Scalar.cmpi .ne v99 c0_i32_34
  let v101 : BitVec 1 := Scalar.andi v98 v100
  let v87 : BitVec 32 := Scalar.divsi v86 c2_i32_29
  let c1_i32_35 : BitVec 32 := 1#32
  let v102 : BitVec 32 := Scalar.subi v87 c1_i32_35
  let v103 : BitVec 32 := Scalar.select v101 v102 v87
  let v104 : BitVec 32 := Scalar.subi v103 c0_i32_37
  let c1_i32_38 : BitVec 32 := 1#32
  let v106 : BitVec 32 := Scalar.divsi v104 c1_i32_38
  let v107 : BitVec 32 := Scalar.muli v106 c1_i32_38
  let v108 : BitVec 32 := Scalar.addi c0_i32_37 v107
  let v105 : BitVec 32 := Scalar.addi c0_i32_37 v104
  let c1_i32_40 : BitVec 32 := 1#32
  ⟨v108, v105, c1_i32_40⟩
def k0_off2 (v8 : BitVec 32) (v10 : BitVec 32) (k0_t2 : Fin (k0_t2_loop v8 v10).trips) (c0_i32_43 : BitVec 32) (c0_i32_47 : BitVec 32) : Fin 3 → Nat :=
  let c0_i32_37 : BitVec 32 := 0#32
  let v85 : BitVec 32 := Scalar.subi v10 v8
  let c2_i32_28 : BitVec 32 := 2#32
  let v86 : BitVec 32 := Scalar.addi v85 c2_i32_28
  let c0_i32_30 : BitVec 32 := 0#32
  let v88 : BitVec 1 := Scalar.cmpi .sgt v86 c0_i32_30
  let v89 : BitVec 32 := Scalar.extui v88
  let c0_i32_31 : BitVec 32 := 0#32
  let v90 : BitVec 1 := Scalar.cmpi .slt v86 c0_i32_31
  let v91 : BitVec 32 := Scalar.extui v90
  let v92 : BitVec 32 := Scalar.subi v89 v91
  let c2_i32_29 : BitVec 32 := 2#32
  let c0_i32_32 : BitVec 32 := 0#32
  let v93 : BitVec 1 := Scalar.cmpi .sgt c2_i32_29 c0_i32_32
  let v94 : BitVec 32 := Scalar.extui v93
  let c0_i32_33 : BitVec 32 := 0#32
  let v95 : BitVec 1 := Scalar.cmpi .slt c2_i32_29 c0_i32_33
  let v96 : BitVec 32 := Scalar.extui v95
  let v97 : BitVec 32 := Scalar.subi v94 v96
  let v98 : BitVec 1 := Scalar.cmpi .ne v92 v97
  let v99 : BitVec 32 := Scalar.remsi v86 c2_i32_29
  let c0_i32_34 : BitVec 32 := 0#32
  let v100 : BitVec 1 := Scalar.cmpi .ne v99 c0_i32_34
  let v101 : BitVec 1 := Scalar.andi v98 v100
  let v87 : BitVec 32 := Scalar.divsi v86 c2_i32_29
  let c1_i32_35 : BitVec 32 := 1#32
  let v102 : BitVec 32 := Scalar.subi v87 c1_i32_35
  let v103 : BitVec 32 := Scalar.select v101 v102 v87
  let v104 : BitVec 32 := Scalar.subi v103 c0_i32_37
  let c1_i32_38 : BitVec 32 := 1#32
  let v106 : BitVec 32 := Scalar.divsi v104 c1_i32_38
  let v107 : BitVec 32 := Scalar.muli v106 c1_i32_38
  let v108 : BitVec 32 := Scalar.addi c0_i32_37 v107
  let c1_i32_40 : BitVec 32 := 1#32
  let arg7 : BitVec 32 := Scf.iv v108 c1_i32_40 k0_t2
  let c2_i32_42 : BitVec 32 := 2#32
  let v112 : BitVec 32 := Scalar.muli arg7 c2_i32_42
  let v113 : BitVec 32 := Scalar.addi v8 v112
  let v114 : BitVec 32 := Scalar.addi v113 c0_i32_43
  let c31_i32 : BitVec 32 := 31#32
  let v122 : BitVec 32 := Scalar.minsi v114 c31_i32
  let c2_i32_46 : BitVec 32 := 2#32
  let v123 : BitVec 32 := Scalar.muli v122 c2_i32_46
  let v124 : BitVec 32 := Scalar.addi v123 c0_i32_47
  let v125 : Index := Scalar.indexCast v124
  let c0_48 : Index := 0#32
  let c0_49 : Index := 0#32
  ![v125.toNat, 0, 0]

def k0_chk1 (v8 : BitVec 32) (v10 : BitVec 32) : Prop :=
  ((k0_t1_loop v8 v10).OK) ∧
  (∀ k0_t1 : Fin (k0_t1_loop v8 v10).trips, ∀ (r₁ : Fin 2) (r₂ : Fin 2), ∀ a, (k0_off1 v8 v10 k0_t1 (BitVec.ofNat 32 r₁.val) (BitVec.ofNat 32 r₂.val)) a + S1x64x64.size a ≤ S64x64x64.size a) ∧
  ((k0_t2_loop v8 v10).OK) ∧
  (∀ k0_t2 : Fin (k0_t2_loop v8 v10).trips, ∀ (r₁ : Fin 2) (r₂ : Fin 2), ∀ a, (k0_off2 v8 v10 k0_t2 (BitVec.ofNat 32 r₁.val) (BitVec.ofNat 32 r₂.val)) a + S1x64x64.size a ≤ S64x64x64.size a)
theorem k0_t1_ok : ∀ (v8 : BitVec 32) (v10 : BitVec 32) (k0_hw1 : k0_chk1 v8 v10), (k0_t1_loop v8 v10).OK := fun v8 v10 k0_hw1 => k0_hw1.1
theorem k0_off1_inb : ∀ (v8 : BitVec 32) (v10 : BitVec 32) (k0_hw1 : k0_chk1 v8 v10) (k0_t1 : Fin (k0_t1_loop v8 v10).trips), ∀ (r₁ : Fin 2) (r₂ : Fin 2), ∀ a, (k0_off1 v8 v10 k0_t1 (BitVec.ofNat 32 r₁.val) (BitVec.ofNat 32 r₂.val)) a + S1x64x64.size a ≤ S64x64x64.size a := fun v8 v10 k0_hw1 k0_t1 r₁ r₂ => k0_hw1.2.1 k0_t1 r₁ r₂
theorem k0_t2_ok : ∀ (v8 : BitVec 32) (v10 : BitVec 32) (k0_hw1 : k0_chk1 v8 v10), (k0_t2_loop v8 v10).OK := fun v8 v10 k0_hw1 => k0_hw1.2.2.1
theorem k0_off2_inb : ∀ (v8 : BitVec 32) (v10 : BitVec 32) (k0_hw1 : k0_chk1 v8 v10) (k0_t2 : Fin (k0_t2_loop v8 v10).trips), ∀ (r₁ : Fin 2) (r₂ : Fin 2), ∀ a, (k0_off2 v8 v10 k0_t2 (BitVec.ofNat 32 r₁.val) (BitVec.ofNat 32 r₂.val)) a + S1x64x64.size a ≤ S64x64x64.size a := fun v8 v10 k0_hw1 k0_t2 r₁ r₂ => k0_hw1.2.2.2 k0_t2 r₁ r₂

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S16384x64 : Shape := ⟨2, ![16384, 64]⟩
abbrev S16384 : Shape := ⟨1, ![16384]⟩
abbrev S16384x2 : Shape := ⟨2, ![16384, 2]⟩
abbrev S_ : Shape := ⟨0, ![]⟩
abbrev S32x2 : Shape := ⟨2, ![32, 2]⟩
abbrev S16384x1 : Shape := ⟨2, ![16384, 1]⟩
abbrev S16384x2x1 : Shape := ⟨3, ![16384, 2, 1]⟩
abbrev S16384x1x64 : Shape := ⟨3, ![16384, 1, 64]⟩
abbrev S16384x2x64 : Shape := ⟨3, ![16384, 2, 64]⟩
abbrev S32x2x64 : Shape := ⟨3, ![32, 2, 64]⟩
abbrev S64 : Shape := ⟨1, ![64]⟩
abbrev S64x64 : Shape := ⟨2, ![64, 64]⟩
abbrev S64x1 : Shape := ⟨2, ![64, 1]⟩
abbrev S1x32 : Shape := ⟨2, ![1, 32]⟩
abbrev S16384x32 : Shape := ⟨2, ![16384, 32]⟩
abbrev S16384x32x1 : Shape := ⟨3, ![16384, 32, 1]⟩
abbrev S16384x1x2 : Shape := ⟨3, ![16384, 1, 2]⟩
abbrev S16384x32x2 : Shape := ⟨3, ![16384, 32, 2]⟩
abbrev S16384x64x1 : Shape := ⟨3, ![16384, 64, 1]⟩
abbrev S16384x64x64 : Shape := ⟨3, ![16384, 64, 64]⟩
abbrev S64x64x64 : Shape := ⟨3, ![64, 64, 64]⟩
abbrev S64x1x1 : Shape := ⟨3, ![64, 1, 1]⟩
abbrev S64x64x1 : Shape := ⟨3, ![64, 64, 1]⟩
abbrev S64x1x64 : Shape := ⟨3, ![64, 1, 64]⟩

abbrev nBuf : Space → Nat
  | .hbm => 54
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384, .i32⟩
  | .hbm, ⟨2, _⟩ => ⟨S16384x2, .f32⟩
  | .hbm, ⟨3, _⟩ => ⟨S_, .f32⟩
  | .hbm, ⟨4, _⟩ => ⟨S32x2, .f32⟩
  | .hbm, ⟨5, _⟩ => ⟨S16384x1, .i32⟩
  | .hbm, ⟨6, _⟩ => ⟨S32x2, .f32⟩
  | .hbm, ⟨7, _⟩ => ⟨S16384x2x1, .f32⟩
  | .hbm, ⟨8, _⟩ => ⟨S16384x1x64, .f32⟩
  | .hbm, ⟨9, _⟩ => ⟨S16384x2x64, .f32⟩
  | .hbm, ⟨10, _⟩ => ⟨S16384x2x64, .f32⟩
  | .hbm, ⟨11, _⟩ => ⟨S16384x2x64, .f32⟩
  | .hbm, ⟨12, _⟩ => ⟨S_, .f32⟩
  | .hbm, ⟨13, _⟩ => ⟨S32x2x64, .f32⟩
  | .hbm, ⟨14, _⟩ => ⟨S16384x1, .i32⟩
  | .hbm, ⟨15, _⟩ => ⟨S32x2x64, .f32⟩
  | .hbm, ⟨16, _⟩ => ⟨S64, .f32⟩
  | .hbm, ⟨17, _⟩ => ⟨S64x64, .f32⟩
  | .hbm, ⟨18, _⟩ => ⟨S64x1, .f32⟩
  | .hbm, ⟨19, _⟩ => ⟨S_, .f32⟩
  | .hbm, ⟨20, _⟩ => ⟨S64x1, .f32⟩
  | .hbm, ⟨21, _⟩ => ⟨S64x1, .f32⟩
  | .hbm, ⟨22, _⟩ => ⟨S64x64, .f32⟩
  | .hbm, ⟨23, _⟩ => ⟨S64x64, .f32⟩
  | .hbm, ⟨24, _⟩ => ⟨S16384x1, .i32⟩
  | .hbm, ⟨25, _⟩ => ⟨S1x32, .i32⟩
  | .hbm, ⟨26, _⟩ => ⟨S16384x32, .i32⟩
  | .hbm, ⟨27, _⟩ => ⟨S16384x32, .i32⟩
  | .hbm, ⟨28, _⟩ => ⟨S16384x32, .i1⟩
  | .hbm, ⟨29, _⟩ => ⟨S16384x32, .f32⟩
  | .hbm, ⟨30, _⟩ => ⟨S16384x32x1, .f32⟩
  | .hbm, ⟨31, _⟩ => ⟨S16384x1x2, .f32⟩
  | .hbm, ⟨32, _⟩ => ⟨S16384x32x2, .f32⟩
  | .hbm, ⟨33, _⟩ => ⟨S16384x32x2, .f32⟩
  | .hbm, ⟨34, _⟩ => ⟨S16384x32x2, .f32⟩
  | .hbm, ⟨35, _⟩ => ⟨S16384x64, .f32⟩
  | .hbm, ⟨36, _⟩ => ⟨S16384x64x1, .f32⟩
  | .hbm, ⟨37, _⟩ => ⟨S16384x1x64, .f32⟩
  | .hbm, ⟨38, _⟩ => ⟨S16384x64x64, .f32⟩
  | .hbm, ⟨39, _⟩ => ⟨S16384x64x64, .f32⟩
  | .hbm, ⟨40, _⟩ => ⟨S16384x64x64, .f32⟩
  | .hbm, ⟨41, _⟩ => ⟨S64x64x64, .f32⟩
  | .hbm, ⟨42, _⟩ => ⟨S64x1x1, .f32⟩
  | .hbm, ⟨43, _⟩ => ⟨S_, .f32⟩
  | .hbm, ⟨44, _⟩ => ⟨S64x1x1, .f32⟩
  | .hbm, ⟨45, _⟩ => ⟨S64x1x1, .f32⟩
  | .hbm, ⟨46, _⟩ => ⟨S64x64x64, .f32⟩
  | .hbm, ⟨47, _⟩ => ⟨S64x64x64, .f32⟩
  | .hbm, ⟨48, _⟩ => ⟨S64x64x1, .f32⟩
  | .hbm, ⟨49, _⟩ => ⟨S64x1x64, .f32⟩
  | .hbm, ⟨50, _⟩ => ⟨S64x64x64, .f32⟩
  | .hbm, ⟨51, _⟩ => ⟨S64x64x64, .f32⟩
  | .hbm, ⟨52, _⟩ => ⟨S64x64x64, .f32⟩
  | .hbm, ⟨53, _⟩ => ⟨S64x64x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Proof.InRange.lean ====
/-
  What the weaker precondition says of the labels: every one is below thirty-two.
-/
module

public import proofs.«01_k».proof.Pre_labels_in_range
public import Idealize.ShloMosaic.Lib.ReduceAll
public import Idealize.ShloMosaic.Lib.WordArith
public import Idealize.ShloMosaic.Lib.Pointwise
public import Idealize.ShloMosaic.Lib.StableHlo.Predicate

@[expose] public section

set_option maxRecDepth 65536

namespace Cert.Pre_labels_in_range.Hand

open Idealize.ShloMosaic

variable {F : FTy → Type} [FloatOps F] [Facts]

instance : Subsingleton S_.Idx := ⟨fun a b => funext fun i => i.elim0⟩

/-- Every label is below thirty-two. -/
theorem label_lt {x : FVec F S16384x64 .f32} {z : IVec S16384 32} {r : FVec F S16384x2 .f32} (h : fn x z r = fun _ => 1#1)
    (n : Fin 16384) : (z (ix1 n)).toNat < 32 := by
  have h0 := congrFun h (fun a => a.elim0)
  unfold fn at h0
  replace h0 : IntOp.andi _ _ = 1#1 := h0
  obtain ⟨low, high⟩ := IntOp.andi_eq_one.1 h0
  have a0 := Host.reduce_andi_all _ _ _ _ _ low (ix1 n)
  have a1 := Host.reduce_andi_all _ _ _ _ _ high (ix1 n)
  exact WordArith.toNat_lt_of_zero_sle_of_slt_ofNat _ 32 (by norm_num)
    ((StableHlo.Predicate.ofBool_eq_one_iff _).1 a0) ((StableHlo.Predicate.ofBool_eq_one_iff _).1 a1)

end Cert.Pre_labels_in_range.Hand

end
-- ==== Proof.BlocksKernel.lean ====
/-
  The blocks the pipeline brings in, read at an index of the arguments; under the precondition the loop of
  every block stays inside the second moments.
-/
module

public import proofs.«01_k».proof.Proof.LaunchKernel
public import proofs.«01_k».proof.Proof.BoundsKernel
public import proofs.«01_k».proof.Proof.InRange
public import proofs.«01_k».proof.Proof.Gen.Pre_labels_in_range
public import Idealize.ShloMosaic.Lib.Claim
public import Idealize.ShloMosaic.Lib.Pipeline.ValueKit
public import Idealize.ShloMosaic.Lib.Pointwise

@[expose] public section

set_option maxRecDepth 65536

noncomputable section

namespace Cert.Kernel.Hand

open Idealize.ShloMosaic Idealize.ShloMosaic.TcCoe Idealize.ShloMosaic.Tactic
open Cert.Kernel Cert.Kernel.Facts Cert.Kernel.Gen Cert.Pre_labels_in_range.Gen

variable {F : FTy → Type} [FloatOps F]

variable (m : (ℓ : Loc nD τ sig) → Buf (Elt F) ℓ)

/-- The row of the arguments that block `t` holds at its own row `i`. -/
def row (t : Fin cfg0.N) (i : Fin 1024) : Fin 16384 := ⟨1024 * t.val + i.val, by have := Nat.lt_of_lt_of_eq t.isLt N_0; omega⟩

/-- The blocks of labels, points and weights start at block `t`. -/
theorem idx_t : ∀ t : Fin cfg0.N, (cfg0.win 0).index t = ![t.val, 0] ∧ (cfg0.win 1).index t = ![t.val, 0] ∧ (cfg0.win 2).index t = ![t.val, 0] := by
  decide +kernel

/-- A block's label is the label of its row. -/
theorem zB_at (c : Dev nD) (t : Fin cfg0.N) (i : Fin 1024) :
    zB m c t (ix2 i 0) = m ((c : Thread nD τ).loc main_arg1) (ix1 (row t i)) := by
  unfold zB iblk
  blk_simp [row, idx_t t]
  have e : V m c main_v0 = shapeCast S16384x1 (m ((c : Thread nD τ).loc main_arg1) : Vec F S16384 .i32) shapeCasts_S16384_S16384x1 := by
    show StableHlo.after [hostOps0].flatten (fun b => m (c, b)) (Proc.tc.devRef main_v0) = _
    simp only [hostOps0, List.flatten_cons, List.flatten_nil, List.append_nil, StableHlo.after_cons, StableHlo.after_nil]
    rw [StableHlo.reshape_result]
    rfl
  show V m c main_v0 _ = _
  rw [e]
  clear e
  pointwise
  refine congrArg (m _) (congrArg ix1 (Fin.ext ?_))
  show ((win0_0.blk t).view.emb (ix2 i 0) 0).val = _
  blk_simp [idx_t t]
  exact congrArg (· + i.val) (Nat.mul_comm _ _)

/-- A block's point is the point of its row. -/
theorem xB_at (c : Dev nD) (t : Fin cfg0.N) (i : Fin 1024) (d : Fin 64) :
    xB m c t (ix2 i d) = m ((c : Thread nD τ).loc main_arg0) (ix2 (row t i) d) := by
  blk_point [xB, row, iblk, V, idx_t t]

/-- A block's weight is the weight of its row. -/
theorem rB_at (c : Dev nD) (t : Fin cfg0.N) (i : Fin 1024) (e : Fin 2) :
    rB m c t (ix2 i e) = m ((c : Thread nD τ).loc main_arg2) (ix2 (row t i) e) := by
  blk_point [rB, row, iblk, V, idx_t t]

/-- The labels of the arguments are below thirty-two. -/
abbrev Ranged : Prop :=
  ∀ c : Dev nD, Cert.Pre_labels_in_range.fn (F := F) (m ((c : Thread nD τ).loc main_arg0)) (m ((c : Thread nD τ).loc main_arg1))
    (m ((c : Thread nD τ).loc main_arg2)) = fun _ => 1#1

/-- The lowest label of a block is that of its first row. -/
theorem zlo_at (c : Dev nD) (t : Fin cfg0.N) : zlo (zB m c t) = m ((c : Thread nD τ).loc main_arg1) (ix1 (row t 0)) := by
  exact zB_at m c t 0

/-- The highest label of a block is that of its last row. -/
theorem zhi_at (c : Dev nD) (t : Fin cfg0.N) : zhi (zB m c t) = m ((c : Thread nD τ).loc main_arg1) (ix1 (row t 1023)) := by
  exact zB_at m c t 1023

variable {m}

/-- Where the labels are below thirty-two the loop of every block stays inside the second moments. -/
theorem fits (h : ∀ (c : Dev nD) (n : Fin 16384), (m ((c : Thread nD τ).loc main_arg1) (ix1 n)).toNat < 32) : Fits m := fun c t => by
  rw [zlo_at, zhi_at]
  exact fits_of_lt (h c _) (h c _)

/-- So it does under the precondition on the range. -/
theorem fits_ranged (h : Ranged m) : Fits m := fits fun c => Cert.Pre_labels_in_range.Hand.label_lt (h c)

end Cert.Kernel.Hand

end
-- ==== Proof.StepsIdeal.lean ====
/-
  What one grid point of the kernel does to its three running results, as plain functions of vectors:
  the running counts and means by whole-array additions, the running second moments slab by slab in the
  counted loop over the labels of the block.
-/
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.VecWindow
public import Idealize.ShloMosaic.Lib.WordArith
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- The first label of a block. -/
abbrev zlo (z : Vec F S1024x1 .i32) : BitVec 32 := extractAt ![0, 0] (k0_pay23 z) inpos_S1x1_p0_0
/-- The last label of a block. -/
abbrev zhi (z : Vec F S1024x1 .i32) : BitVec 32 := extractAt ![0, 0] (k0_pay24 z) inpos_S1x1_p0_0

/-- The counts after a block: the block's weights per group added. -/
abbrev nsStep (z : Vec F S1024x1 .i32) (x : Vec F S1024x64 .f32) (r : Vec F S1024x2 .f32) (ns : Vec F S64x1 .f32) : Vec F S64x1 .f32 :=
  k0_pay30 x (k0_pay22 z) (iota .tc S1024x64 32 [1] iota_S1024x64_d1_w32) (k0_pay25 r) 2#32 k0_pay26 k0_pay27 ns

/-- The weighted sums after a block. -/
abbrev musStep (z : Vec F S1024x1 .i32) (x : Vec F S1024x64 .f32) (r : Vec F S1024x2 .f32) (mus : Vec F S64x64 .f32) : Vec F S64x64 .f32 :=
  k0_pay29 x (k0_pay22 z) (iota .tc S1024x64 32 [1] iota_S1024x64_d1_w32) (k0_pay25 r) 2#32 k0_pay26 k0_pay27 mus

section Seg
variable (v3 : Vec F S1024x64 .f32) (v6 : IVec S1024x1 32) (v8 v10 : BitVec 32) (hw : k0_chk1 v8 v10)
  (v80 : FVec F S1024x64 .f32) (v81 : FVec F S1024x1 .f32)

/-- The slab of label copy `u` and column `j` in trip `k`, before it is rewritten. -/
abbrev slabAt (k : Fin (k0_t1_loop v8 v10).trips) (u j : Fin 2) (C : Vec F S64x64x64 .f32) : Vec F S1x64x64 .f32 :=
  VecWindow.window C (k0_off1 v8 v10 k (BitVec.ofNat 32 u.val) (BitVec.ofNat 32 j.val)) S1x64x64.size (k0_off1_inb v8 v10 hw k u j)

/-- One trip of the loop over labels: four slabs of the running second moments rewritten, one after the other. -/
def tripStep (k : Fin (k0_t1_loop v8 v10).trips) (C : Vec F S64x64x64 .f32) : Vec F S64x64x64 .f32 :=
  let C1 : Vec F S64x64x64 .f32 := VecWindow.put C (k0_off1 v8 v10 k 0#32 0#32) S1x64x64.size
    (k0_pay12 v3 v6 v8 v10 (k0_pay1 v3 v80 v81) 0#32 1#32 k (slabAt v8 v10 hw k 0 0 C))
  let C2 : Vec F S64x64x64 .f32 := VecWindow.put C1 (k0_off1 v8 v10 k 0#32 1#32) S1x64x64.size
    (k0_pay13 v3 v6 v8 v10 (k0_pay1 v3 v80 v81) 0#32 1#32 k (slabAt v8 v10 hw k 0 1 C1))
  let C3 : Vec F S64x64x64 .f32 := VecWindow.put C2 (k0_off1 v8 v10 k 1#32 0#32) S1x64x64.size
    (k0_pay3 v3 v80 v81 (Scalar.ofBits .f32 0x00000000#32) (k0_pay14 v6 v8 v10 0#32 1#32 k) (slabAt v8 v10 hw k 1 0 C2))
  VecWindow.put C3 (k0_off1 v8 v10 k 1#32 1#32) S1x64x64.size
    (k0_pay4 v3 v80 v81 (Scalar.ofBits .f32 0x00000000#32) (k0_pay14 v6 v8 v10 0#32 1#32 k) (slabAt v8 v10 hw k 1 1 C3))

/-- The running second moments after the first `n` trips. -/
def segState (C : Vec F S64x64x64 .f32) : ℕ → Vec F S64x64x64 .f32
  | 0 => C
  | n + 1 => if h : n < (k0_t1_loop v8 v10).trips then tripStep v3 v6 v8 v10 hw v80 v81 ⟨n, h⟩ (segState C n) else segState C n

end Seg

section Loop
variable (𝒱 : Variants) (c : Dev nD) (bd : Option 𝒱.V) (i : grid0.Coords) (arg1 : Memref sig .tc .vmem S1024x1 .i32) (harg1 : arg1.IsWhole) (arg2 : Memref sig .tc .vmem S1024x64 .f32) (harg2 : arg2.IsWhole) (arg3 : Memref sig .tc .vmem S1024x2 .f32) (harg3 : arg3.IsWhole) (arg4 : Memref sig .tc .vmem S64x1 .f32) (harg4 : arg4.IsWhole) (arg5 : Memref sig .tc .vmem S64x64 .f32) (harg5 : arg5.IsWhole) (arg6 : Memref sig .tc .vmem S64x64x64 .f32) (harg6 : arg6.IsWhole)
  (v3 : Vec F S1024x64 .f32) (v6 : IVec S1024x1 32) (v8 v10 : BitVec 32) (hw : k0_chk1 v8 v10)
  (v80 : FVec F S1024x64 .f32) (v81 : FVec F S1024x1 .f32)

/-- What a trip's stores leave is `tripStep` of what the trip found. -/
theorem read_trip (k : Fin (k0_t1_loop v8 v10).trips) (f : BufTy.Contents (Elt F) arg6.view.ty) :
    arg6.view.read (Elt F) (arg6.view.writes (Elt F) f (tripL_k0_t1 (F := F) 𝒱 c bd i arg1 harg1 arg2 harg2 arg3 harg3 arg4 harg4 arg5 harg5 arg6 harg6 v3 v6 v8 v10 hw v80 v81 k f))
      = tripStep v3 v6 v8 v10 hw v80 v81 k (arg6.view.read (Elt F) f) := by
  unfold tripL_k0_t1 trip_k0_t1
  dsimp only
  unfold tripStep
  rw [View.read_writes_cons_put _ _ _ _ _ rfl, View.readAt_unit _ _ _ rfl (k0_off1_inb v8 v10 hw k 1 1)]
  unfold trip_k0_t1.sl.HW_arg6_3
  rw [View.read_writes_cons_put _ _ _ _ _ rfl, View.readAt_unit _ _ _ rfl (k0_off1_inb v8 v10 hw k 1 0)]
  unfold trip_k0_t1.sl.HW_arg6_2
  rw [View.read_writes_cons_put _ _ _ _ _ rfl, View.readAt_unit _ _ _ rfl (k0_off1_inb v8 v10 hw k 0 1)]
  unfold trip_k0_t1.sl.HW_arg6_1
  rw [View.read_writes_cons_put _ _ _ _ _ rfl, View.readAt_unit _ _ _ rfl (k0_off1_inb v8 v10 hw k 0 0)]
  rfl

/-- After `n` trips the buffer reads as `segState` of what it read on entry. -/
theorem read_trips (G : BufTy.Contents (Elt F) arg6.view.ty) : ∀ n,
    arg6.view.read (Elt F) (arg6.view.writes (Elt F) G (pb_k0_t1 (F := F) 𝒱 c bd i arg1 harg1 arg2 harg2 arg3 harg3 arg4 harg4 arg5 harg5 arg6 harg6 v3 v6 v8 v10 hw v80 v81 G n))
      = segState v3 v6 v8 v10 hw v80 v81 (arg6.view.read (Elt F) G) n := by
  intro n
  induction n with
  | zero => rfl
  | succ n ih =>
    rw [segState]
    by_cases h : n < (k0_t1_loop v8 v10).trips
    · rw [dif_pos h]
      refine (congrArg (fun L => arg6.view.read (Elt F) (arg6.view.writes (Elt F) G L)) (pb_k0_t1_succ (F := F) 𝒱 c bd i arg1 harg1 arg2 harg2 arg3 harg3 arg4 harg4 arg5 harg5 arg6 harg6 v3 v6 v8 v10 hw v80 v81 G ⟨n, h⟩)).trans ?_
      dsimp only
      rw [View.writes_append, read_trip, ih]
    · rw [dif_neg h, ← ih, pb_k0_t1.eq_2]
      unfold pb_k0_t1Step
      rw [dif_neg h]

/-- The second loop runs from the first loop's bound to the same bound: it makes no trip. -/
theorem t2_trips (v8 v10 : BitVec 32) : (k0_t2_loop v8 v10).trips = 0 := by
  have key : ∀ q : BitVec 32, Scf.trips (Scalar.addi 0#32 (Scalar.muli (Scalar.divsi (Scalar.subi q 0#32) 1#32) 1#32)) (Scalar.addi 0#32 (Scalar.subi q 0#32)) 1#32 = 0 := by
    intro q
    have h1 : Scalar.divsi (Scalar.subi q 0#32) 1#32 = Scalar.subi q 0#32 := Idealize.ShloMosaic.WordArith.divsi_one _ _
    rw [h1]
    have h2 : Scalar.muli (Scalar.subi q 0#32) 1#32 = Scalar.subi q 0#32 := by
      simp [Scalar.muli, IntOp.muli, BitVec.mul_one]
    rw [h2]
    unfold Scf.trips
    rw [sub_self]; decide
  exact key _

end Loop

end Cert.KernelIdeal.Hand

end
-- ==== Proof.RunsIdeal.lean ====
/-
  The kernel's body at one grid point: the three cases (first point, a middle point, last point), each as a
  triple whose final contents are the plain functions of StepsIdeal.
-/
module

public import proofs.«01_k».proof.Proof.StepsIdeal
public import Idealize.ShloMosaic.Lib.Claim
public import Idealize.ShloMosaic.Lib.Pipeline.FrameBody
public import Idealize.ShloMosaic.Lib.Pipeline.FrameSuffix
public import Idealize.ShloMosaic.Lib.Ring
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The body is at the first point. -/
abbrev atFirst (i : grid0.Coords) : Prop := (Scalar.cmpi .ne (Scalar.extui (Scalar.cmpi .eq (BitVec.ofNat 32 (i 0).val) 0#32)) 0#32) = 1#1
/-- The body is at the last point. -/
abbrev atLast (i : grid0.Coords) : Prop := (Scalar.cmpi .ne (Scalar.extui (Scalar.cmpi .eq (BitVec.ofNat 32 (i 0).val) 15#32)) 0#32) = 1#1

/-- The second moments after a block: all trips of the loop over its labels. -/
def covStep (z : Vec F S1024x1 .i32) (x : Vec F S1024x64 .f32) (r : Vec F S1024x2 .f32) (hw : k0_chk1 (zlo z) (zhi z)) (C : Vec F S64x64x64 .f32) : Vec F S64x64x64 .f32 :=
  segState x (k0_pay22 z) (zlo z) (zhi z) hw (k0_pay31 x r) (k0_pay32 r) C (k0_t1_loop (zlo z) (zhi z)).trips

section Cases
variable (c : Dev nD) (i : grid0.Coords) (arg1 : Memref sig .tc .vmem S1024x1 .i32) (harg1 : arg1.IsWhole) (arg2 : Memref sig .tc .vmem S1024x64 .f32) (harg2 : arg2.IsWhole) (arg3 : Memref sig .tc .vmem S1024x2 .f32) (harg3 : arg3.IsWhole) (arg4 : Memref sig .tc .vmem S64x1 .f32) (harg4 : arg4.IsWhole) (arg5 : Memref sig .tc .vmem S64x64 .f32) (harg5 : arg5.IsWhole) (arg6 : Memref sig .tc .vmem S64x64x64 .f32) (harg6 : arg6.IsWhole)
  (z : Vec F S1024x1 .i32) (x : Vec F S1024x64 .f32) (r : Vec F S1024x2 .f32) (hw : k0_chk1 (zlo z) (zhi z))
  (ns : Vec F S64x1 .f32) (mus : Vec F S64x64 .f32) (cov : Vec F S64x64x64 .f32)

/-- Both loops together rewrite the second moments as `covStep` does, whatever spelling their operands have. -/
theorem read_loops (v3 : Vec F S1024x64 .f32) (v6 : IVec S1024x1 32) (v8 v10 w : BitVec 32) (hw' : k0_chk1 v8 v10)
    (v80 : FVec F S1024x64 .f32) (v81 : FVec F S1024x1 .f32) (G G' : BufTy.Contents (Elt F) arg6.view.ty)
    (e3 : v3 = x) (e6 : v6 = k0_pay22 z) (e8 : v8 = zlo z) (e10 : v10 = zhi z) (e80 : v80 = k0_pay31 x r) (e81 : v81 = k0_pay32 r) :
    arg6.view.read (Elt F) (arg6.view.writes (Elt F) G
        (pb_k0_t2 (F := F) Variants.none c none i arg1 harg1 arg2 harg2 arg3 harg3 arg4 harg4 arg5 harg5 arg6 harg6 v3 v6 v8 v10 hw' v80 v81 w G' (k0_t2_loop v8 v10).trips
          ++ pb_k0_t1 (F := F) Variants.none c none i arg1 harg1 arg2 harg2 arg3 harg3 arg4 harg4 arg5 harg5 arg6 harg6 v3 v6 v8 v10 hw' v80 v81 G (k0_t1_loop v8 v10).trips))
      = covStep z x r hw (arg6.view.read (Elt F) G) := by
  subst e3 e6 e8 e10 e80 e81
  rw [t2_trips, pb_k0_t2.eq_1, List.nil_append, read_trips]
  rfl

set_option maxHeartbeats 4000000 in
/-- A middle point: the three running results move on by one block. -/
theorem run_mid (h0 : ¬atFirst i) (h1 : ¬atLast i) (E : Set ℕ) (K : PUnit → sProp 𝕄) :
    iprop(owns (c : Thread nD τ) arg1 fullShare z ∗ owns (c : Thread nD τ) arg2 fullShare x ∗ owns (c : Thread nD τ) arg3 fullShare r ∗ owns (c : Thread nD τ) arg4 fullShare ns ∗ owns (c : Thread nD τ) arg5 fullShare mus ∗ owns (c : Thread nD τ) arg6 fullShare cov
        ∗ (iprop(owns (c : Thread nD τ) arg1 fullShare z ∗ owns (c : Thread nD τ) arg2 fullShare x ∗ owns (c : Thread nD τ) arg3 fullShare r ∗ owns (c : Thread nD τ) arg4 fullShare (nsStep z x r ns) ∗ owns (c : Thread nD τ) arg5 fullShare (musStep z x r mus) ∗ owns (c : Thread nD τ) arg6 fullShare (covStep z x r hw cov)) -∗ K ⟨⟩))
      ⊢ wp frame (wpE (defs₀ (F := F)) Variants.none c none) E (cc0__lambda_ i arg1 harg1 arg2 harg2 arg3 harg3 arg4 harg4 arg5 harg5 arg6 harg6) K := by
  simp only [cc0__lambda__eq_skeleton]; unfold cc0__lambda__skel
  simp only [k0_part3_eq_skeleton, k0_part4_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  sl_exec (disch := first | sl_exact h0 | sl_exact h1)
  have hz : View.readAt (Elt F) arg1.view (Rect.unit ![0, 0] S1024x1.size inb_S1024x1_S1024x1_0_0).toLoadRect (harg1.unread z) = z := by
    rw [View.readAt_full]; exact harg1.read_unread _
  have e8 : run_mid.sl.v8 c arg1 harg1 z = zlo z := by unfold run_mid.sl.v8; rw [hz]
  have e10 : run_mid.sl.v10 c arg1 harg1 z = zhi z := by unfold run_mid.sl.v10; rw [hz]
  have hw' : k0_chk1 (run_mid.sl.v8 c arg1 harg1 z) (run_mid.sl.v10 c arg1 harg1 z) := by rw [e8, e10]; exact hw
  simp only [wp_assume_of _ _ _ _ (d := k0_chk1.dec _ _) hw']
  sl_exec (disch := first | sl_exact h0 | sl_exact h1)
  sl_step
  have er : run_mid.sl.r arg2 harg2 x = x := by unfold run_mid.sl.r; rw [View.readAt_full]; exact harg2.read_unread _
  have er2 : run_mid.sl.r_2 arg1 harg1 z = k0_pay22 z := by unfold run_mid.sl.r_2; rw [hz]
  have er4 : run_mid.sl.r_4 arg3 harg3 r = k0_pay25 r := by
    unfold run_mid.sl.r_4; rw [View.readAt_full, harg3.read_unread]
  have er1 : run_mid.sl.r_1 arg3 harg3 r = r := by unfold run_mid.sl.r_1; rw [View.readAt_full]; exact harg3.read_unread _
  have er5 : run_mid.sl.r_5 arg2 harg2 arg3 harg3 x r = k0_pay31 x r := by
    unfold run_mid.sl.r_5; rw [er, er1]
  have er6 : run_mid.sl.r_6 arg3 harg3 r = k0_pay32 r := by
    unfold run_mid.sl.r_6; rw [er1]
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap
    · iexact H4
    · ipureintro
      unfold run_mid.sl.H4_1
      rw [View.read_writes_full, er, er2, er4, View.readAt_full, harg4.read_unread]
      rfl
  isplitl [H5]
  · iexists _; isplitr; swap
    · iexact H5
    · ipureintro
      unfold run_mid.sl.H5_1
      rw [View.read_writes_full, er, er2, er4, View.readAt_full, harg5.read_unread]
      rfl
  iexists _; isplitr; swap
  · iexact H6
  · ipureintro
    refine (read_loops c i arg1 harg1 arg2 harg2 arg3 harg3 arg4 harg4 arg5 harg5 arg6 harg6 z x r hw _ _ _ _ _ hw' _ _ _ _ er er2 e8 e10 er5 er6).trans ?_
    rw [harg6.read_unread]

set_option maxHeartbeats 4000000 in
/-- The first point: the running results start from zeros. -/
theorem run_first (h0 : atFirst i) (h1 : ¬atLast i) (E : Set ℕ) (K : PUnit → sProp 𝕄) :
    iprop(owns (c : Thread nD τ) arg1 fullShare z ∗ owns (c : Thread nD τ) arg2 fullShare x ∗ owns (c : Thread nD τ) arg3 fullShare r ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare z ∗ owns (c : Thread nD τ) arg2 fullShare x ∗ owns (c : Thread nD τ) arg3 fullShare r ∗ owns (c : Thread nD τ) arg4 fullShare (nsStep z x r k0_pay19) ∗ owns (c : Thread nD τ) arg5 fullShare (musStep z x r k0_pay20) ∗ owns (c : Thread nD τ) arg6 fullShare (covStep z x r hw k0_pay21)) -∗ K ⟨⟩))
      ⊢ wp frame (wpE (defs₀ (F := F)) Variants.none c none) E (cc0__lambda_ i arg1 harg1 arg2 harg2 arg3 harg3 arg4 harg4 arg5 harg5 arg6 harg6) K := by
  simp only [cc0__lambda__eq_skeleton]; unfold cc0__lambda__skel
  simp only [k0_part3_eq_skeleton, k0_part4_eq_skeleton]
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg1.eq_unread hf1; obtain rfl := harg2.eq_unread hf2; obtain rfl := harg3.eq_unread hf3
  sl_exec (disch := first | sl_exact h0 | sl_exact h1)
  have hz : View.readAt (Elt F) arg1.view (Rect.unit ![0, 0] S1024x1.size inb_S1024x1_S1024x1_0_0).toLoadRect (harg1.unread z) = z := by
    rw [View.readAt_full]; exact harg1.read_unread _
  have e8 : run_first.sl.v8 c arg1 harg1 z = zlo z := by unfold run_first.sl.v8; rw [hz]
  have e10 : run_first.sl.v10 c arg1 harg1 z = zhi z := by unfold run_first.sl.v10; rw [hz]
  have hw' : k0_chk1 (run_first.sl.v8 c arg1 harg1 z) (run_first.sl.v10 c arg1 harg1 z) := by rw [e8, e10]; exact hw
  simp only [wp_assume_of _ _ _ _ (d := k0_chk1.dec _ _) hw']
  sl_exec (disch := first | sl_exact h0 | sl_exact h1)
  sl_step
  have er : run_first.sl.r arg2 harg2 x = x := by unfold run_first.sl.r; rw [View.readAt_full]; exact harg2.read_unread _
  have er2 : run_first.sl.r_2 arg1 harg1 z = k0_pay22 z := by unfold run_first.sl.r_2; rw [hz]
  have er4 : run_first.sl.r_4 arg3 harg3 r = k0_pay25 r := by
    unfold run_first.sl.r_4; rw [View.readAt_full, harg3.read_unread]
  have er1 : run_first.sl.r_1 arg3 harg3 r = r := by unfold run_first.sl.r_1; rw [View.readAt_full]; exact harg3.read_unread _
  have er5 : run_first.sl.r_5 arg2 harg2 arg3 harg3 x r = k0_pay31 x r := by
    unfold run_first.sl.r_5; rw [er, er1]
  have er6 : run_first.sl.r_6 arg3 harg3 r = k0_pay32 r := by
    unfold run_first.sl.r_6; rw [er1]
  have g4 : run_first.sl.v73 arg4 = k0_pay19 (F := F) := by
    unfold run_first.sl.v73; exact View.readCov_full _ _ _ _ _
  have g5 : run_first.sl.v68 arg5 = k0_pay20 (F := F) := by
    unfold run_first.sl.v68; exact View.readCov_full _ _ _ _ _
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap
    · iexact H4
    · ipureintro
      unfold run_first.sl.H4_2
      rw [View.read_writes_full, er, er2, er4, g4]
      rfl
  isplitl [H5]
  · iexists _; isplitr; swap
    · iexact H5
    · ipureintro
      unfold run_first.sl.H5_2
      rw [View.read_writes_full, er, er2, er4, g5]
      rfl
  iexists _; isplitr; swap
  · iexact H6
  · ipureintro
    rw [← List.append_assoc, View.writes_append]
    refine (read_loops c i arg1 harg1 arg2 harg2 arg3 harg3 arg4 harg4 arg5 harg5 arg6 harg6 z x r hw _ _ _ _ _ hw' _ _ _ _ er er2 e8 e10 er5 er6).trans ?_
    rw [View.read_writes_full]

set_option maxHeartbeats 4000000 in
/-- The last point: one block more, then the means and the covariances in place of the sums. -/
theorem run_last (h0 : ¬atFirst i) (h1 : atLast i) (E : Set ℕ) (K : PUnit → sProp 𝕄) :
    iprop(owns (c : Thread nD τ) arg1 fullShare z ∗ owns (c : Thread nD τ) arg2 fullShare x ∗ owns (c : Thread nD τ) arg3 fullShare r ∗ owns (c : Thread nD τ) arg4 fullShare ns ∗ owns (c : Thread nD τ) arg5 fullShare mus ∗ owns (c : Thread nD τ) arg6 fullShare cov
        ∗ (iprop(owns (c : Thread nD τ) arg1 fullShare z ∗ owns (c : Thread nD τ) arg2 fullShare x ∗ owns (c : Thread nD τ) arg3 fullShare r ∗ owns (c : Thread nD τ) arg4 fullShare (nsStep z x r ns) ∗ owns (c : Thread nD τ) arg5 fullShare (k0_pay9 (nsStep z x r ns) (musStep z x r mus)) ∗ owns (c : Thread nD τ) arg6 fullShare (k0_pay10 (nsStep z x r ns) (musStep z x r mus) (covStep z x r hw cov))) -∗ K ⟨⟩))
      ⊢ wp frame (wpE (defs₀ (F := F)) Variants.none c none) E (cc0__lambda_ i arg1 harg1 arg2 harg2 arg3 harg3 arg4 harg4 arg5 harg5 arg6 harg6) K := by
  simp only [cc0__lambda__eq_skeleton]; unfold cc0__lambda__skel
  simp only [k0_part3_eq_skeleton, k0_part4_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  sl_exec (disch := first | sl_exact h0 | sl_exact h1)
  have hz : View.readAt (Elt F) arg1.view (Rect.unit ![0, 0] S1024x1.size inb_S1024x1_S1024x1_0_0).toLoadRect (harg1.unread z) = z := by
    rw [View.readAt_full]; exact harg1.read_unread _
  have e8 : run_last.sl.v8 c arg1 harg1 z = zlo z := by unfold run_last.sl.v8; rw [hz]
  have e10 : run_last.sl.v10 c arg1 harg1 z = zhi z := by unfold run_last.sl.v10; rw [hz]
  have hw' : k0_chk1 (run_last.sl.v8 c arg1 harg1 z) (run_last.sl.v10 c arg1 harg1 z) := by rw [e8, e10]; exact hw
  simp only [wp_assume_of _ _ _ _ (d := k0_chk1.dec _ _) hw']
  sl_exec (disch := first | sl_exact h0 | sl_exact h1)
  sl_step
  have er : run_last.sl.r arg2 harg2 x = x := by unfold run_last.sl.r; rw [View.readAt_full]; exact harg2.read_unread _
  have er2 : run_last.sl.r_2 arg1 harg1 z = k0_pay22 z := by unfold run_last.sl.r_2; rw [hz]
  have er4 : run_last.sl.r_4 arg3 harg3 r = k0_pay25 r := by
    unfold run_last.sl.r_4; rw [View.readAt_full, harg3.read_unread]
  have er1 : run_last.sl.r_1 arg3 harg3 r = r := by unfold run_last.sl.r_1; rw [View.readAt_full]; exact harg3.read_unread _
  have er5 : run_last.sl.r_5 arg2 harg2 arg3 harg3 x r = k0_pay31 x r := by
    unfold run_last.sl.r_5; rw [er, er1]
  have er6 : run_last.sl.r_6 arg3 harg3 r = k0_pay32 r := by
    unfold run_last.sl.r_6; rw [er1]
  have g4 : run_last.sl.v112 arg1 harg1 arg2 harg2 arg3 harg3 arg4 harg4 z x r ns = nsStep z x r ns := by
    unfold run_last.sl.v112 run_last.sl.H4_1
    rw [View.readCov_full, er, er2, er4, View.readAt_full, harg4.read_unread]
    rfl
  have g5 : run_last.sl.v116 arg1 harg1 arg2 harg2 arg3 harg3 arg5 harg5 z x r mus = musStep z x r mus := by
    unfold run_last.sl.v116 run_last.sl.H5_1
    rw [View.readCov_full, er, er2, er4, View.readAt_full, harg5.read_unread]
    rfl
  have g6 : run_last.sl.v121 c i arg1 harg1 arg2 harg2 arg3 harg3 arg4 harg4 arg5 harg5 arg6 harg6 z x r cov hw' = covStep z x r hw cov := by
    unfold run_last.sl.v121
    rw [View.readAt_full]
    refine (read_loops c i arg1 harg1 arg2 harg2 arg3 harg3 arg4 harg4 arg5 harg5 arg6 harg6 z x r hw _ _ _ _ _ hw' _ _ _ _ er er2 e8 e10 er5 er6).trans ?_
    rw [harg6.read_unread]
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap
    · iexact H4
    · ipureintro
      unfold run_last.sl.H4_1
      rw [View.read_writes_full, er, er2, er4, View.readAt_full, harg4.read_unread]
      rfl
  isplitl [H5]
  · iexists _; isplitr; swap
    · iexact H5
    · ipureintro
      rw [View.read_writes_full, g4, g5]
  iexists _; isplitr; swap
  · iexact H6
  · ipureintro
    rw [View.read_writes_full, g4, g5, g6]

end Cases

end Cert.KernelIdeal.Hand

end
-- ==== Proof.LaunchIdeal.lean ====
/-
  The kernel's region as a pipeline over its sixteen blocks: what every staging buffer holds after each block,
  the body's triple at each point, and the run of the whole program from it.
-/
module

public import proofs.«01_k».proof.Proof.RunsIdeal

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid is at its first point at position zero only. -/
theorem atFirst_iff : ∀ t : Fin cfg0.N, atFirst (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [atFirst, e0]
    word_cmp
   : ∀ t : Fin grid0.N, atFirst (grid0.coords t) ↔ t.val % 16 = 0)

/-- The grid is at its last point at position fifteen only. -/
theorem atLast_iff : ∀ t : Fin cfg0.N, atLast (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [atLast, e0]
    word_cmp
   : ∀ t : Fin grid0.N, atLast (grid0.coords t) ↔ t.val % 16 = 15)

/-- The labels of block `t`. -/
abbrev zB (c : Dev nD) (t : Fin cfg0.N) : Vec F S1024x1 .i32 := iblk m c 0 t
/-- The points of block `t`. -/
abbrev xB (c : Dev nD) (t : Fin cfg0.N) : Vec F S1024x64 .f32 := iblk m c 1 t
/-- The weights of block `t`. -/
abbrev rB (c : Dev nD) (t : Fin cfg0.N) : Vec F S1024x2 .f32 := iblk m c 2 t

/-- What the body assumes of each block: the loop over its labels stays inside the second moments. -/
abbrev Fits : Prop := ∀ (c : Dev nD) (t : Fin cfg0.N), k0_chk1 (zlo (zB m c t)) (zhi (zB m c t))

variable (H : Fits m)

/-- The counts after `n` blocks. -/
def nsAt (c : Dev nD) : ℕ → Vec F S64x1 .f32
  | 0 => k0_pay19
  | n + 1 => if h : n < cfg0.N then nsStep (zB m c ⟨n, h⟩) (xB m c ⟨n, h⟩) (rB m c ⟨n, h⟩) (nsAt c n) else nsAt c n
/-- The weighted sums after `n` blocks. -/
def musAt (c : Dev nD) : ℕ → Vec F S64x64 .f32
  | 0 => k0_pay20
  | n + 1 => if h : n < cfg0.N then musStep (zB m c ⟨n, h⟩) (xB m c ⟨n, h⟩) (rB m c ⟨n, h⟩) (musAt c n) else musAt c n
/-- The second moments after `n` blocks. -/
def covAt (c : Dev nD) : ℕ → Vec F S64x64x64 .f32
  | 0 => k0_pay21
  | n + 1 => if h : n < cfg0.N then covStep (zB m c ⟨n, h⟩) (xB m c ⟨n, h⟩) (rB m c ⟨n, h⟩) (H c ⟨n, h⟩) (covAt c n) else covAt c n

theorem nsAt_succ (c : Dev nD) (t : Fin cfg0.N) : nsAt m c (t.val + 1) = nsStep (zB m c t) (xB m c t) (rB m c t) (nsAt m c t.val) := by
  rw [nsAt, dif_pos t.isLt]
theorem musAt_succ (c : Dev nD) (t : Fin cfg0.N) : musAt m c (t.val + 1) = musStep (zB m c t) (xB m c t) (rB m c t) (musAt m c t.val) := by
  rw [musAt, dif_pos t.isLt]
theorem covAt_succ (c : Dev nD) (t : Fin cfg0.N) : covAt m H c (t.val + 1) = covStep (zB m c t) (xB m c t) (rB m c t) (H c t) (covAt m H c t.val) := by
  rw [covAt, dif_pos t.isLt]

/-- The buffer of the means after point `t`: the running sums, at the last point their quotients by the counts. -/
def musOut (c : Dev nD) (t : Fin cfg0.N) : Vec F S64x64 .f32 :=
  if t.val % 16 = 15 then k0_pay9 (nsAt m c (t.val + 1)) (musAt m c (t.val + 1)) else musAt m c (t.val + 1)
/-- The buffer of the covariances after point `t`: the running second moments, at the last point the covariances. -/
def covOut (c : Dev nD) (t : Fin cfg0.N) : Vec F S64x64x64 .f32 :=
  if t.val % 16 = 15 then k0_pay10 (nsAt m c (t.val + 1)) (musAt m c (t.val + 1)) (covAt m H c (t.val + 1)) else covAt m H c (t.val + 1)

/-- The pipeline's proof data: inputs stay at their blocks, outputs hold the running results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => nsAt m c (t.val + 1)
    | ⟨4, _⟩ => musOut m c t
    | ⟨5, _⟩ => covOut m H c t
  Φ _ := Pipeline.ΦA spec0 c
  q _ := fullShare
  owed _ := 0

theorem dats_A (c : Dev nD) (w : Fin cfg0.W) : (dats m H 0 c).A w = V m c (Pipeline.arrRef spec0 w) := by
  dsimp only [dats]
theorem after_z (c : Dev nD) (t : Fin cfg0.N) : (dats m H 0 c).after 0 t = iblk m c 0 t := by dsimp only [dats]
theorem after_x (c : Dev nD) (t : Fin cfg0.N) : (dats m H 0 c).after 1 t = iblk m c 1 t := by dsimp only [dats]
theorem after_r (c : Dev nD) (t : Fin cfg0.N) : (dats m H 0 c).after 2 t = iblk m c 2 t := by dsimp only [dats]
theorem after_ns (c : Dev nD) (t : Fin cfg0.N) : (dats m H 0 c).after 3 t = nsAt m c (t.val + 1) := by dsimp only [dats]
theorem after_mus (c : Dev nD) (t : Fin cfg0.N) : (dats m H 0 c).after 4 t = musOut m c t := by dsimp only [dats]
theorem after_cov (c : Dev nD) (t : Fin cfg0.N) : (dats m H 0 c).after 5 t = covOut m H c t := by dsimp only [dats]

theorem before_z (c : Dev nD) (t : Fin cfg0.N) (d) : (dats m H 0 c).before 0 t d = iblk m c 0 t :=
  before0_0_of m (dats m H 0 c) (dats_A m H c 0) (after_z m H c) t d
theorem before_x (c : Dev nD) (t : Fin cfg0.N) (d) : (dats m H 0 c).before 1 t d = iblk m c 1 t :=
  before0_1_of m (dats m H 0 c) (dats_A m H c 1) (after_x m H c) t d
theorem before_r (c : Dev nD) (t : Fin cfg0.N) (d) : (dats m H 0 c).before 2 t d = iblk m c 2 t :=
  before0_2_of m (dats m H 0 c) (dats_A m H c 2) (after_r m H c) t d

/-- Past the first point, the counts' buffer holds what the point before left. -/
theorem before_ns (c : Dev nD) (t : Fin cfg0.N) (h0 : ¬t.val % 16 = 0) (d) : (dats m H 0 c).before 3 t d = nsAt m c t.val := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega) (fun _ => rfl) (fun _ _ => rfl)]
  dsimp only [dats]
  rw [Nat.sub_add_cancel (by omega)]
theorem before_mus (c : Dev nD) (t : Fin cfg0.N) (h0 : ¬t.val % 16 = 0) (d) : (dats m H 0 c).before 4 t d = musAt m c t.val := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega) (fun _ => rfl) (fun _ _ => rfl)]
  dsimp only [dats]
  rw [musOut, if_neg (by dsimp only; omega), Nat.sub_add_cancel (by omega)]
theorem before_cov (c : Dev nD) (t : Fin cfg0.N) (h0 : ¬t.val % 16 = 0) (d) : (dats m H 0 c).before 5 t d = covAt m H c t.val := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega) (fun _ => rfl) (fun _ _ => rfl)]
  dsimp only [dats]
  rw [covOut, if_neg (by dsimp only; omega), Nat.sub_add_cancel (by omega)]

/-- Each window's staging memref at a point, and that it is a whole buffer. -/
abbrev st0 (t : Fin cfg0.N) : Memref sig .tc .vmem S1024x1 .i32 := win0_0.stage (cfg0.slots t 0)
abbrev wh0 (t : Fin cfg0.N) : (st0 t).IsWhole := hstage0_0 ((cfg0.slots t 0).cast nbuf0_0)
abbrev st1 (t : Fin cfg0.N) : Memref sig .tc .vmem S1024x64 .f32 := win0_1.stage (cfg0.slots t 1)
abbrev wh1 (t : Fin cfg0.N) : (st1 t).IsWhole := hstage0_1 ((cfg0.slots t 1).cast nbuf0_1)
abbrev st2 (t : Fin cfg0.N) : Memref sig .tc .vmem S1024x2 .f32 := win0_2.stage (cfg0.slots t 2)
abbrev wh2 (t : Fin cfg0.N) : (st2 t).IsWhole := hstage0_2 ((cfg0.slots t 2).cast nbuf0_2)
abbrev st3 (t : Fin cfg0.N) : Memref sig .tc .vmem S64x1 .f32 := win0_3.stage (cfg0.slots t 3)
abbrev wh3 (t : Fin cfg0.N) : (st3 t).IsWhole := hstage0_3 ((cfg0.slots t 3).cast nbuf0_3)
abbrev st4 (t : Fin cfg0.N) : Memref sig .tc .vmem S64x64 .f32 := win0_4.stage (cfg0.slots t 4)
abbrev wh4 (t : Fin cfg0.N) : (st4 t).IsWhole := hstage0_4 ((cfg0.slots t 4).cast nbuf0_4)
abbrev st5 (t : Fin cfg0.N) : Memref sig .tc .vmem S64x64x64 .f32 := win0_5.stage (cfg0.slots t 5)
abbrev wh5 (t : Fin cfg0.N) : (st5 t).IsWhole := hstage0_5 ((cfg0.slots t 5).cast nbuf0_5)

/-- What the body may rely on at a point. -/
abbrev bodyPre (c : Dev nD) (t : Fin cfg0.N) : sProp 𝕄 :=
  iprop((dats m H 0 c).Φ t.castSucc ∗ (dats m H 0 c).owesAt () t.castSucc
    ∗ (∃ d, owns (c : Thread nD τ) (st0 t) fullShare ((dats m H 0 c).before 0 t d))
    ∗ (∃ d, owns (c : Thread nD τ) (st1 t) fullShare ((dats m H 0 c).before 1 t d))
    ∗ (∃ d, owns (c : Thread nD τ) (st2 t) fullShare ((dats m H 0 c).before 2 t d))
    ∗ (∃ d, owns (c : Thread nD τ) (st3 t) fullShare ((dats m H 0 c).before 3 t d))
    ∗ (∃ d, owns (c : Thread nD τ) (st4 t) fullShare ((dats m H 0 c).before 4 t d))
    ∗ (∃ d, owns (c : Thread nD τ) (st5 t) fullShare ((dats m H 0 c).before 5 t d)))
/-- What the body leaves at a point. -/
abbrev bodyPost (c : Dev nD) (t : Fin cfg0.N) : sProp 𝕄 :=
  iprop((dats m H 0 c).Φ t.succ ∗ (dats m H 0 c).owesAt () t.succ
    ∗ owns (c : Thread nD τ) (st0 t) fullShare ((dats m H 0 c).after 0 t)
    ∗ owns (c : Thread nD τ) (st1 t) fullShare ((dats m H 0 c).after 1 t)
    ∗ owns (c : Thread nD τ) (st2 t) fullShare ((dats m H 0 c).after 2 t)
    ∗ owns (c : Thread nD τ) (st3 t) fullShare ((dats m H 0 c).after 3 t)
    ∗ owns (c : Thread nD τ) (st4 t) fullShare ((dats m H 0 c).after 4 t)
    ∗ owns (c : Thread nD τ) (st5 t) fullShare ((dats m H 0 c).after 5 t))

set_option maxHeartbeats 2000000 in
/-- The body's triple at every point, by the case the point is in. -/
theorem body_sound (c : Dev nD) (t : Fin cfg0.N) :
    bodyPre m H c t ⊢ wp frame (wpE (defs₀ (F := F)) Variants.none c none) Set.univ (bodyAt0 t) (fun _ => bodyPost m H c t) := by
  unfold bodyPre bodyPost bodyAt0
  simp only [before_z, before_x, before_r]
  rw [show (dats m H 0 c).Φ t.succ = (dats m H 0 c).Φ t.castSucc from rfl,
    show (dats m H 0 c).owesAt () t.succ = (dats m H 0 c).owesAt () t.castSucc from rfl,
    after_z, after_x, after_r, after_ns, after_mus, after_cov]
  have hN : t.val < 16 := lt_of_lt_of_eq t.isLt (show cfg0.N = 16 from N_0)
  by_cases h0 : t.val % 16 = 0
  · have hz : t.val = 0 := by omega
    have h1 : ¬ t.val % 16 = 15 := by omega
    iintro ⟨HΦ, Ho, ⟨%d0, H0⟩, ⟨%d1, H1⟩, ⟨%d2, H2⟩, ⟨%d3, H3⟩, ⟨%d4, H4⟩, ⟨%d5, H5⟩⟩
    iapply (run_first c (grid0.coords t) _ (wh0 t) _ (wh1 t) _ (wh2 t) _ (wh3 t) _ (wh4 t) _ (wh5 t) (iblk m c 0 t) (iblk m c 1 t) (iblk m c 2 t) (H c t)
      ((atFirst_iff t).mpr h0) (fun h => h1 ((atLast_iff t).mp h)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    have e3 : nsAt m c (t.val + 1) = nsStep (zB m c t) (xB m c t) (rB m c t) k0_pay19 := by rw [nsAt_succ, hz]; rfl
    have e4 : musOut m c t = musStep (zB m c t) (xB m c t) (rB m c t) k0_pay20 := by rw [musOut, if_neg h1, musAt_succ, hz]; rfl
    have e5 : covOut m H c t = covStep (zB m c t) (xB m c t) (rB m c t) (H c t) k0_pay21 := by rw [covOut, if_neg h1, covAt_succ, hz]; rfl
    rw [e3, e4, e5]
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [before_ns m H c t h0, before_mus m H c t h0, before_cov m H c t h0]
    by_cases h1 : t.val % 16 = 15
    · iintro ⟨HΦ, Ho, ⟨%d0, H0⟩, ⟨%d1, H1⟩, ⟨%d2, H2⟩, ⟨%d3, H3⟩, ⟨%d4, H4⟩, ⟨%d5, H5⟩⟩
      iapply (run_last c (grid0.coords t) _ (wh0 t) _ (wh1 t) _ (wh2 t) _ (wh3 t) _ (wh4 t) _ (wh5 t) (iblk m c 0 t) (iblk m c 1 t) (iblk m c 2 t) (H c t)
        (nsAt m c t.val) (musAt m c t.val) (covAt m H c t.val)
        (fun h => h0 ((atFirst_iff t).mp h)) ((atLast_iff t).mpr h1) Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, H5⟩
      rw [musOut, if_pos h1, covOut, if_pos h1, nsAt_succ, musAt_succ, covAt_succ]
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
    · iintro ⟨HΦ, Ho, ⟨%d0, H0⟩, ⟨%d1, H1⟩, ⟨%d2, H2⟩, ⟨%d3, H3⟩, ⟨%d4, H4⟩, ⟨%d5, H5⟩⟩
      iapply (run_mid c (grid0.coords t) _ (wh0 t) _ (wh1 t) _ (wh2 t) _ (wh3 t) _ (wh4 t) _ (wh5 t) (iblk m c 0 t) (iblk m c 1 t) (iblk m c 2 t) (H c t)
        (nsAt m c t.val) (musAt m c t.val) (covAt m H c t.val)
        (fun h => h0 ((atFirst_iff t).mp h)) (fun h => h1 ((atLast_iff t).mp h)) Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, H5⟩
      rw [musOut, if_neg h1, covOut, if_neg h1, nsAt_succ, musAt_succ, covAt_succ]
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5

/-- The launch's body at a point is the pipeline's. -/
theorem body_row (t : Fin cfg0.N) : defs₀ (F := F) .tc cfg0.body (cfg0.bodyArgs t (cfg0.slots t)) = bodyAt0 t := by
  unfold defs₀; rw [Defs.onTc_tc]; try rfl

theorem body_obligation (c : Dev nD) : BodyObligation (dats (F := F) m H 0 c) (defs₀ (F := F)) Variants.none () Set.univ := fun t => by
  rw [bigSep_W0, bigSep_W0, body_row]
  exact triple_restated (body_sound m H c t) rfl .rfl fun _ => .rfl

set_option backward.isDefEq.respectTransparency.types false in
set_option maxHeartbeats 800000 in
/-- The whole program's run: every array as the pipeline leaves it, the later host lines done, every semaphore at zero. -/
theorem run_quiet : θ_run defs (onTc (τ := τ) (main (F := F))) (s₀ m ρ)
    (fun r => (Pipeline.FramePost cfgs (dats m H) 0 (Pipeline.afterTail₀ cfgs (dats m H) 0 (V0 m) [hostOps1])) r ∧ r.2.sem = fun _ => 0) :=
  Pipeline.θ_run_frame_around (Q' := _) cfgs (dats m H) (0 : Fin 1) launch0 defs₀ Variants.none m ρ main
    (hbody := fun c => (body_obligation m H c).loose) (hshare := fun c => (dats m H 0 c).share_full fun _ => rfl)
    (howed := fun _ _ => rfl) (V₀ := V0 m) (opss := [hostOps1]) (hsub := sfx_sub) (hfresh := sfx_fresh) (hkeep := sfx_keeps)
    (hmain := hmain m Variants.none) (hA := dats_A m H) (hΦ := fun _ _ => rfl)

theorem run_post : θ_run defs (onTc (τ := τ) (main (F := F))) (s₀ m ρ)
    (Pipeline.FramePost cfgs (dats m H) 0 (Pipeline.afterTail₀ cfgs (dats m H) 0 (V0 m) [hostOps1])) :=
  (θ_run defs _ _).mono (fun _ h => h.1) (run_quiet m ρ H)

include H in
/-- The program leaves its arguments as they were and ends quiet. -/
theorem keeps : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m H) (dats_A m H) (run_post m ρ H)) ((θ_run defs _ _).mono (fun _ h => h.2) (run_quiet m ρ H))

end Cert.KernelIdeal.Hand

end
-- ==== Proof.BoundsIdeal.lean ====
/-
  The loop over the labels of a block, its trip count and the slabs it touches, for labels below thirty-two.
-/
module

public import proofs.«01_k».proof.Proof.StepsIdeal

@[expose] public section

set_option maxRecDepth 1000000

noncomputable section

namespace Cert.KernelIdeal.Hand

open Idealize.ShloMosaic
open Cert.KernelIdeal.Gen

/-- The loop runs over the labels two at a time, from the lowest to the highest. -/
theorem trips_fin : ∀ lo hi : Fin 32, lo ≤ hi →
    (k0_t1_loop (BitVec.ofNat 32 lo.val) (BitVec.ofNat 32 hi.val)).trips = (hi.val - lo.val + 2) / 2 := by
  decide +kernel

/-- Between labels below thirty-two, in order or not, the loop stays inside the second moments. -/
theorem fits_fin : ∀ lo hi : Fin 32, k0_chk1 (BitVec.ofNat 32 lo.val) (BitVec.ofNat 32 hi.val) := by
  decide +kernel

/-- The slab that trip `k` of the loop touches for label `r₁` of its two and weight `r₂`. -/
theorem off_fin : ∀ lo hi : Fin 32, lo ≤ hi →
    ∀ (k : Fin (k0_t1_loop (BitVec.ofNat 32 lo.val) (BitVec.ofNat 32 hi.val)).trips) (r₁ r₂ : Fin 2),
      k0_off1 _ _ k (BitVec.ofNat 32 r₁.val) (BitVec.ofNat 32 r₂.val) = ![min (lo.val + 2 * k.val + r₁.val) 31 * 2 + r₂.val, 0, 0] := by
  decide +kernel

/-- A word below thirty-two is that of a number below thirty-two. -/
theorem word_fin (a : BitVec 32) (h : a.toNat < 32) : ∃ n : Fin 32, a = BitVec.ofNat 32 n.val ∧ (BitVec.ofNat 32 n.val).toNat = n.val :=
  ⟨⟨a.toNat, h⟩, by simp, by simp⟩

/-- The loop of a block runs over its labels two at a time. -/
theorem trips_eq {a b : BitVec 32} (hab : a.toNat ≤ b.toNat) (hb : b.toNat < 32) :
    (k0_t1_loop a b).trips = (b.toNat - a.toNat + 2) / 2 := by
  obtain ⟨lo, rfl, el⟩ := word_fin a (by omega)
  obtain ⟨hi, rfl, eh⟩ := word_fin b hb
  rw [el, eh] at hab ⊢
  exact trips_fin lo hi hab

/-- The loop of a block stays inside the second moments. -/
theorem fits_of_lt {a b : BitVec 32} (ha : a.toNat < 32) (hb : b.toNat < 32) : k0_chk1 a b := by
  obtain ⟨lo, rfl, el⟩ := word_fin a ha
  obtain ⟨hi, rfl, eh⟩ := word_fin b hb
  exact fits_fin lo hi

/-- The slab a trip of a block's loop touches. -/
theorem off_eq {a b : BitVec 32} (hab : a.toNat ≤ b.toNat) (hb : b.toNat < 32) (k : Fin (k0_t1_loop a b).trips) (r₁ r₂ : Fin 2) :
    k0_off1 a b k (BitVec.ofNat 32 r₁.val) (BitVec.ofNat 32 r₂.val) = ![min (a.toNat + 2 * k.val + r₁.val) 31 * 2 + r₂.val, 0, 0] := by
  obtain ⟨lo, rfl, el⟩ := word_fin a (by omega)
  obtain ⟨hi, rfl, eh⟩ := word_fin b hb
  rw [el, eh] at hab
  rw [el]
  exact off_fin lo hi hab k r₁ r₂

end Cert.KernelIdeal.Hand

end
-- ==== Proof.Sorted.lean ====
/-
  What the precondition says of the labels: every one is below thirty-two, and they never decrease.
-/
module

public import proofs.«01_k».proof.Pre_sorted_labels
public import Idealize.ShloMosaic.Lib.ReduceAll
public import Idealize.ShloMosaic.Lib.WordArith
public import Idealize.ShloMosaic.Lib.Pointwise
public import Idealize.ShloMosaic.Lib.Tactic
public import Idealize.ShloMosaic.Lib.StableHlo.Predicate

@[expose] public section

set_option maxRecDepth 65536

namespace Cert.Pre_sorted_labels.Hand

open Idealize.ShloMosaic

variable {F : FTy → Type} [FloatOps F] [Facts]

instance : Subsingleton S_.Idx := ⟨fun a b => funext fun i => i.elim0⟩

section
variable {x : FVec F S16384x64 .f32} {z : IVec S16384 32} {r : FVec F S16384x2 .f32}

/-- The three conditions of the precondition, one label or one pair of neighbours at a time. -/
theorem parts (h : fn x z r = fun _ => 1#1) :
    (∀ n : Fin 16384, BitVec.sle 0#32 (z (ix1 n)) = true) ∧ (∀ n : Fin 16384, BitVec.slt (z (ix1 n)) 32#32 = true) ∧
      ∀ n : Fin 16383, BitVec.sle (z (ix1 ⟨n.val, by omega⟩)) (z (ix1 ⟨n.val + 1, by omega⟩)) = true := by
  have h0 := congrFun h (fun a => a.elim0)
  unfold fn at h0
  replace h0 : IntOp.andi (IntOp.andi _ _) _ = 1#1 := h0
  obtain ⟨h01, h2⟩ := IntOp.andi_eq_one.1 h0
  obtain ⟨h0, h1⟩ := IntOp.andi_eq_one.1 h01
  have a0 := fun n : Fin 16384 => Host.reduce_andi_all _ _ _ _ _ h0 (ix1 n)
  have a1 := fun n : Fin 16384 => Host.reduce_andi_all _ _ _ _ _ h1 (ix1 n)
  have a2 := fun n : Fin 16383 => Host.reduce_andi_all _ _ _ _ _ h2 (ix1 n)
  refine ⟨fun n => ?_, fun n => ?_, fun n => ?_⟩
  · exact (StableHlo.Predicate.ofBool_eq_one_iff _).1 (a0 n)
  · exact (StableHlo.Predicate.ofBool_eq_one_iff _).1 (a1 n)
  · have e := (StableHlo.Predicate.ofBool_eq_one_iff _).1 (a2 n)
    have e0 : extractStridedSlice S16383 ![0] z Facts.slices_S16384_S16383_0 (ix1 n) = z (ix1 ⟨n.val, by omega⟩) := by
      unfold extractStridedSlice
      refine congrArg z ?_
      funext a
      fin_cases a
      exact Fin.ext (Nat.zero_add _)
    have e1 : extractStridedSlice S16383 ![1] z Facts.slices_S16384_S16383_1 (ix1 n) = z (ix1 ⟨n.val + 1, by omega⟩) := by
      unfold extractStridedSlice
      refine congrArg z ?_
      funext a
      fin_cases a
      exact Fin.ext (Nat.add_comm _ _)
    rw [← e0, ← e1]
    exact e

/-- Every label is below thirty-two. -/
theorem label_lt (h : fn x z r = fun _ => 1#1) (n : Fin 16384) : (z (ix1 n)).toNat < 32 :=
  WordArith.toNat_lt_of_zero_sle_of_slt_ofNat _ 32 (by norm_num) ((parts h).1 n) ((parts h).2.1 n)

/-- The labels never decrease. -/
theorem label_mono (h : fn x z r = fun _ => 1#1) (a b : Fin 16384) (hab : a ≤ b) : (z (ix1 a)).toNat ≤ (z (ix1 b)).toNat := by
  obtain ⟨a, ha⟩ := a
  obtain ⟨b, hb⟩ := b
  replace hab : a ≤ b := hab
  induction b, hab using Nat.le_induction with
  | base => exact le_rfl
  | succ b hab ih =>
    refine (ih (by omega)).trans ?_
    have hs : BitVec.sle (z (ix1 ⟨b, by omega⟩)) (z (ix1 ⟨b + 1, hb⟩)) = true := (parts h).2.2 ⟨b, by omega⟩
    have l1 := label_lt h ⟨b, by omega⟩
    have l2 := label_lt h ⟨b + 1, hb⟩
    rw [BitVec.sle_eq_decide, decide_eq_true_eq, BitVec.toInt_eq_toNat_of_lt (by omega), BitVec.toInt_eq_toNat_of_lt (by omega)] at hs
    exact_mod_cast hs

end

end Cert.Pre_sorted_labels.Hand

end
-- ==== Proof.BlocksIdeal.lean ====
/-
  The blocks the pipeline brings in, read at an index of the arguments; under the precondition the loop of
  every block stays inside the second moments.
-/
module

public import proofs.«01_k».proof.Proof.LaunchIdeal
public import proofs.«01_k».proof.Proof.BoundsIdeal
public import proofs.«01_k».proof.Proof.InRange
public import proofs.«01_k».proof.Proof.Sorted
public import proofs.«01_k».proof.Proof.Gen.Pre_labels_in_range
public import proofs.«01_k».proof.Proof.Gen.Pre_sorted_labels
public import Idealize.ShloMosaic.Lib.Claim
public import Idealize.ShloMosaic.Lib.Pipeline.ValueKit
public import Idealize.ShloMosaic.Lib.Pointwise

@[expose] public section

set_option maxRecDepth 65536

noncomputable section

namespace Cert.KernelIdeal.Hand

open Idealize.ShloMosaic Idealize.ShloMosaic.TcCoe Idealize.ShloMosaic.Tactic
open Cert.KernelIdeal Cert.KernelIdeal.Facts Cert.KernelIdeal.Gen Cert.Pre_labels_in_range.Gen Cert.Pre_sorted_labels.Gen

variable {F : FTy → Type} [FloatOps F]

variable (m : (ℓ : Loc nD τ sig) → Buf (Elt F) ℓ)

/-- The row of the arguments that block `t` holds at its own row `i`. -/
def row (t : Fin cfg0.N) (i : Fin 1024) : Fin 16384 := ⟨1024 * t.val + i.val, by have := Nat.lt_of_lt_of_eq t.isLt N_0; omega⟩

/-- The blocks of labels, points and weights start at block `t`. -/
theorem idx_t : ∀ t : Fin cfg0.N, (cfg0.win 0).index t = ![t.val, 0] ∧ (cfg0.win 1).index t = ![t.val, 0] ∧ (cfg0.win 2).index t = ![t.val, 0] := by
  decide +kernel

/-- A block's label is the label of its row. -/
theorem zB_at (c : Dev nD) (t : Fin cfg0.N) (i : Fin 1024) :
    zB m c t (ix2 i 0) = m ((c : Thread nD τ).loc main_arg1) (ix1 (row t i)) := by
  unfold zB iblk
  blk_simp [row, idx_t t]
  have e : V m c main_v0 = shapeCast S16384x1 (m ((c : Thread nD τ).loc main_arg1) : Vec F S16384 .i32) shapeCasts_S16384_S16384x1 := by
    show StableHlo.after [hostOps0].flatten (fun b => m (c, b)) (Proc.tc.devRef main_v0) = _
    simp only [hostOps0, List.flatten_cons, List.flatten_nil, List.append_nil, StableHlo.after_cons, StableHlo.after_nil]
    rw [StableHlo.reshape_result]
    rfl
  show V m c main_v0 _ = _
  rw [e]
  clear e
  pointwise
  refine congrArg (m _) (congrArg ix1 (Fin.ext ?_))
  show ((win0_0.blk t).view.emb (ix2 i 0) 0).val = _
  blk_simp [idx_t t]
  exact congrArg (· + i.val) (Nat.mul_comm _ _)

/-- A block's point is the point of its row. -/
theorem xB_at (c : Dev nD) (t : Fin cfg0.N) (i : Fin 1024) (d : Fin 64) :
    xB m c t (ix2 i d) = m ((c : Thread nD τ).loc main_arg0) (ix2 (row t i) d) := by
  blk_point [xB, row, iblk, V, idx_t t]

/-- A block's weight is the weight of its row. -/
theorem rB_at (c : Dev nD) (t : Fin cfg0.N) (i : Fin 1024) (e : Fin 2) :
    rB m c t (ix2 i e) = m ((c : Thread nD τ).loc main_arg2) (ix2 (row t i) e) := by
  blk_point [rB, row, iblk, V, idx_t t]

/-- The labels of the arguments are below thirty-two. -/
abbrev Ranged : Prop :=
  ∀ c : Dev nD, Cert.Pre_labels_in_range.fn (F := F) (m ((c : Thread nD τ).loc main_arg0)) (m ((c : Thread nD τ).loc main_arg1))
    (m ((c : Thread nD τ).loc main_arg2)) = fun _ => 1#1

/-- The labels of the arguments are in order and below thirty-two. -/
abbrev Ordered : Prop :=
  ∀ c : Dev nD, Cert.Pre_sorted_labels.fn (F := F) (m ((c : Thread nD τ).loc main_arg0)) (m ((c : Thread nD τ).loc main_arg1))
    (m ((c : Thread nD τ).loc main_arg2)) = fun _ => 1#1

/-- The lowest label of a block is that of its first row. -/
theorem zlo_at (c : Dev nD) (t : Fin cfg0.N) : zlo (zB m c t) = m ((c : Thread nD τ).loc main_arg1) (ix1 (row t 0)) := by
  exact zB_at m c t 0

/-- The highest label of a block is that of its last row. -/
theorem zhi_at (c : Dev nD) (t : Fin cfg0.N) : zhi (zB m c t) = m ((c : Thread nD τ).loc main_arg1) (ix1 (row t 1023)) := by
  exact zB_at m c t 1023

variable {m}

/-- The labels of a block lie between its first and its last, all below thirty-two. -/
theorem between (h : Ordered m) (c : Dev nD) (t : Fin cfg0.N) (i : Fin 1024) :
    (zlo (zB m c t)).toNat ≤ (zB m c t (ix2 i 0)).toNat ∧ (zB m c t (ix2 i 0)).toNat ≤ (zhi (zB m c t)).toNat ∧
      (zhi (zB m c t)).toNat < 32 := by
  rw [zlo_at, zhi_at, zB_at]
  refine ⟨Cert.Pre_sorted_labels.Hand.label_mono (h c) _ _ ?_, Cert.Pre_sorted_labels.Hand.label_mono (h c) _ _ ?_,
    Cert.Pre_sorted_labels.Hand.label_lt (h c) _⟩
  · show 1024 * t.val + 0 ≤ 1024 * t.val + i.val
    omega
  · show 1024 * t.val + i.val ≤ 1024 * t.val + 1023
    omega

/-- Where the labels are below thirty-two the loop of every block stays inside the second moments. -/
theorem fits (h : ∀ (c : Dev nD) (n : Fin 16384), (m ((c : Thread nD τ).loc main_arg1) (ix1 n)).toNat < 32) : Fits m := fun c t => by
  rw [zlo_at, zhi_at]
  exact fits_of_lt (h c _) (h c _)

/-- So it does under the precondition on the range. -/
theorem fits_ranged (h : Ranged m) : Fits m := fits fun c => Cert.Pre_labels_in_range.Hand.label_lt (h c)

/-- So it does under the precondition on the range and the order. -/
theorem fits_ordered (h : Ordered m) : Fits m := fits fun c => Cert.Pre_sorted_labels.Hand.label_lt (h c)

end Cert.KernelIdeal.Hand

end
-- ==== Proof.PaysIdeal.lean ====
/-
  What one block adds to the counts and to the weighted sums, read at a group over the extended reals.
-/
module

public import proofs.«01_k».proof.Proof.StepsIdeal
public import Idealize.ShloMosaic.Lib.Pointwise
public import Idealize.ShloMosaic.Lib.IdealHost

@[expose] public section

set_option maxRecDepth 65536

noncomputable section

namespace Cert.KernelIdeal.Hand

open Idealize.ShloMosaic
open Cert.KernelIdeal Cert.KernelIdeal.Gen

/-- The label of group `g`, as a word. -/
abbrev labelOf (g : Fin 64) : BitVec 32 := BitVec.ofNat 32 (g.val / 2)

/-- The weight column of group `g`. -/
abbrev colOf (g : Fin 64) : Fin 2 := ⟨g.val % 2, Nat.mod_lt _ (by norm_num)⟩

/-- The lane's parity test. -/
theorem parity_fin : ∀ g : Fin 64,
    IntOp.cmpi CmpIPredicate.eq
        (Scalar.select
          (IntOp.andi
            (IntOp.xori
              (IntOp.cmpi CmpIPredicate.slt
                (IntOp.remsi ArithUnit.vector (BitVec.ofNat 32 g.val)
                  (Scalar.select (Scalar.cmpi CmpIPredicate.eq 2#32 0#32) 1#32 2#32))
                0#32)
              (Scalar.cmpi CmpIPredicate.slt (Scalar.select (Scalar.cmpi CmpIPredicate.eq 2#32 0#32) 1#32 2#32) 0#32))
            (IntOp.cmpi CmpIPredicate.ne
              (IntOp.remsi ArithUnit.vector (BitVec.ofNat 32 g.val)
                (Scalar.select (Scalar.cmpi CmpIPredicate.eq 2#32 0#32) 1#32 2#32))
              0#32))
          (IntOp.addi
            (IntOp.remsi ArithUnit.vector (BitVec.ofNat 32 g.val)
              (Scalar.select (Scalar.cmpi CmpIPredicate.eq 2#32 0#32) 1#32 2#32))
            (Scalar.select (Scalar.cmpi CmpIPredicate.eq 2#32 0#32) 1#32 2#32))
          (IntOp.remsi ArithUnit.vector (BitVec.ofNat 32 g.val)
            (Scalar.select (Scalar.cmpi CmpIPredicate.eq 2#32 0#32) 1#32 2#32)))
        1#32 = BitVec.ofBool (decide (g.val % 2 = 1)) := by
  decide +kernel

/-- The lane's label. -/
theorem label_fin : ∀ g : Fin 64,
    Scalar.select
            (IntOp.andi
              (IntOp.cmpi CmpIPredicate.ne
                (IntOp.subi (BitVec.setWidth 32 (IntOp.cmpi CmpIPredicate.sgt (BitVec.ofNat 32 g.val) 0#32))
                  (BitVec.setWidth 32 (IntOp.cmpi CmpIPredicate.slt (BitVec.ofNat 32 g.val) 0#32)))
                (Scalar.subi (Scalar.extui (Scalar.cmpi CmpIPredicate.sgt 2#32 0#32))
                  (Scalar.extui (Scalar.cmpi CmpIPredicate.slt 2#32 0#32))))
              (IntOp.cmpi CmpIPredicate.ne (IntOp.remsi ArithUnit.vector (BitVec.ofNat 32 g.val) 2#32) 0#32))
            (IntOp.subi (IntOp.divsi ArithUnit.vector (BitVec.ofNat 32 g.val) 2#32) 1#32)
            (IntOp.divsi ArithUnit.vector (BitVec.ofNat 32 g.val) 2#32) = labelOf g := by
  decide +kernel

/-- The weights laid out over the groups: group `g` reads its own column. -/
theorem pay25_at (r : Vec Ideal S1024x2 .f32) (i : Fin 1024) (g : Fin 64) : k0_pay25 r (ix2 i g) = r (ix2 i (colOf g)) := by
  unfold k0_pay25
  pointwise
  rw [parity_fin]
  by_cases h : g.val % 2 = 1
  · have e : colOf g = 1 := Fin.ext h
    rw [e, decide_eq_true h]
    rfl
  · have e : colOf g = 0 := Fin.ext (show g.val % 2 = 0 by omega)
    rw [e, decide_eq_false h]
    rfl

/-- A selection by an equality test of words is a case split. -/
theorem select_eq {α : Type} {w : ℕ} (a b : BitVec w) (x y : α) :
    Scalar.select (IntOp.cmpi CmpIPredicate.eq a b) x y = if a = b then x else y := by
  by_cases h : a = b
  · simp [h, IntOp.cmpi, Scalar.select]
  · simp [h, IntOp.cmpi, Scalar.select, beq_false_of_ne h]

/-- The block's products of masked weights with the points and with one, at group `g`. -/
theorem pay28_at (z : Vec Ideal S1024x1 .i32) (x : Vec Ideal S1024x64 .f32) (r : Vec Ideal S1024x2 .f32) (g : Fin 64) (d : Fin 65) :
    k0_pay28 x (k0_pay22 z) (iota .tc S1024x64 32 [1] iota_S1024x64_d1_w32) (k0_pay25 r) 2#32 k0_pay26 k0_pay27 (ix2 g d) =
      ∑ i : Fin 1024, if z (ix2 i 0) = labelOf g then r (ix2 i (colOf g)) * (if h : d.val < 64 then x (ix2 i ⟨d.val, h⟩) else 1) else 0 := by
  unfold k0_pay28 k0_pay22 k0_pay26 k0_pay27
  pointwise
  simp only [label_fin, select_eq, pay25_at]

/-- The counts after a block: the weights of the rows that carry the group's label, added. -/
theorem nsStep_at (z : Vec Ideal S1024x1 .i32) (x : Vec Ideal S1024x64 .f32) (r : Vec Ideal S1024x2 .f32) (ns : Vec Ideal S64x1 .f32) (g : Fin 64) :
    nsStep z x r ns (ix2 g 0) = ns (ix2 g 0) + ∑ i : Fin 1024, if z (ix2 i 0) = labelOf g then r (ix2 i (colOf g)) else 0 := by
  unfold nsStep k0_pay30
  pointwise
  rw [pay28_at]
  simp

/-- The weighted sums after a block. -/
theorem musStep_at (z : Vec Ideal S1024x1 .i32) (x : Vec Ideal S1024x64 .f32) (r : Vec Ideal S1024x2 .f32) (mus : Vec Ideal S64x64 .f32)
    (g d : Fin 64) :
    musStep z x r mus (ix2 g d) = mus (ix2 g d) +
      ∑ i : Fin 1024, if z (ix2 i 0) = labelOf g then r (ix2 i (colOf g)) * x (ix2 i d) else 0 := by
  unfold musStep k0_pay29
  pointwise
  rw [pay28_at]
  simp

end Cert.KernelIdeal.Hand

end
-- ==== Proof.TripIdeal.lean ====
/-
  What the loop over the labels of a block adds to the second moments, read at an entry over the extended
  reals.
-/
module

public import proofs.«01_k».proof.Proof.PaysIdeal
public import proofs.«01_k».proof.Proof.BoundsIdeal

@[expose] public section

set_option maxRecDepth 65536

noncomputable section

namespace Cert.KernelIdeal.Hand

open Idealize.ShloMosaic
open Cert.KernelIdeal Cert.KernelIdeal.Gen

/-- The slab put at row `o` is what that row holds afterwards; the other rows are kept. -/
theorem put_slab (C : Vec Ideal S64x64x64 .f32) (off : Fin S64x64x64.rank → ℕ) (o : Fin 64) (hoff : off = ![o.val, 0, 0])
    (w : Vec Ideal S1x64x64 .f32) (g d e : Fin 64) :
    VecWindow.put C off S1x64x64.size w (ix3 g d e) = if g = o then w (ix3 0 d e) else C (ix3 g d e) := by
  subst hoff
  unfold VecWindow.put
  by_cases h : g = o
  · subst h
    have hd := d.isLt
    have he := e.isLt
    have hm : ∀ a : Fin S64x64x64.rank, (![g.val, 0, 0] : Fin 3 → ℕ) a ≤ ((ix3 g d e : S64x64x64.Idx) a).val ∧
        ((ix3 g d e : S64x64x64.Idx) a).val < (![g.val, 0, 0] : Fin 3 → ℕ) a + S1x64x64.size a := by
      intro a
      match a with
      | ⟨0, _⟩ => exact ⟨le_refl g.val, Nat.lt_succ_self g.val⟩
      | ⟨1, _⟩ => exact ⟨Nat.zero_le _, show d.val < 0 + 64 by omega⟩
      | ⟨2, _⟩ => exact ⟨Nat.zero_le _, show e.val < 0 + 64 by omega⟩
    rw [dif_pos hm, if_pos rfl]
    refine congrArg w (funext fun a => Fin.ext ?_)
    match a with
    | ⟨0, _⟩ => exact Nat.sub_self g.val
    | ⟨1, _⟩ => rfl
    | ⟨2, _⟩ => rfl
  · rw [if_neg h, dif_neg]
    intro hm
    have h0 : o.val ≤ g.val ∧ g.val < o.val + 1 := hm (0 : Fin 3)
    exact h (Fin.ext (by omega))

/-- The window over row `o` reads that row. -/
theorem window_slab (C : Vec Ideal S64x64x64 .f32) (off : Fin S64x64x64.rank → ℕ) (o : Fin 64) (hoff : off = ![o.val, 0, 0])
    (inb : ∀ a, off a + S1x64x64.size a ≤ S64x64x64.size a) (d e : Fin 64) :
    VecWindow.window C off S1x64x64.size inb (ix3 0 d e : S1x64x64.Idx) = C (ix3 o d e) := by
  subst hoff
  refine congrArg C (funext fun a => Fin.ext ?_)
  match a with
  | ⟨0, _⟩ => rfl
  | ⟨1, _⟩ => show 0 + 1 * d.val = d.val; omega
  | ⟨2, _⟩ => show 0 + 1 * e.val = e.val; omega

/-- A row rewritten with an amount added to each of its entries. -/
theorem put_added (C : Vec Ideal S64x64x64 .f32) (off : Fin S64x64x64.rank → ℕ) (o : Fin 64) (hoff : off = ![o.val, 0, 0])
    (inb : ∀ a, off a + S1x64x64.size a ≤ S64x64x64.size a) (w : Vec Ideal S1x64x64 .f32) (a : EReal) (g d e : Fin 64)
    (hw : w (ix3 0 d e) = VecWindow.window C off S1x64x64.size inb (ix3 0 d e : S1x64x64.Idx) + a) :
    VecWindow.put C off S1x64x64.size w (ix3 g d e) = C (ix3 g d e) + if g = o then a else 0 := by
  rw [put_slab C off o hoff, hw, window_slab C off o hoff inb]
  by_cases h : g = o
  · rw [if_pos h, if_pos h, h]
  · rw [if_neg h, if_neg h, add_zero]

/-- The label a trip handles, as a word. -/
theorem word_trip_fin : ∀ (lo : Fin 32) (k : Fin 16) (u : Fin 2),
    Scalar.addi (Scalar.addi (BitVec.ofNat 32 lo.val) (Scalar.muli (Scf.iv 0#32 1#32 k.val) 2#32)) (BitVec.ofNat 32 u.val)
      = BitVec.ofNat 32 (lo.val + 2 * k.val + u.val) := by
  decide +kernel

section Slabs
variable (x : Vec Ideal S1024x64 .f32) (v6 : IVec S1024x1 32) (v8 v10 : BitVec 32) (v80 : FVec Ideal S1024x64 .f32) (v81 : FVec Ideal S1024x1 .f32)
variable (k : Fin (k0_t1_loop v8 v10).trips) (s : Vec Ideal S1x64x64 .f32) (d e : Fin 64)

/-- The trip's first label, first weight. -/
theorem pay12_at :
    k0_pay12 x v6 v8 v10 (k0_pay1 x v80 v81) 0#32 1#32 k s (ix3 0 d e) = s (ix3 0 d e) +
      ∑ i : Fin 1024, if v6 (ix2 i 0) = Scalar.addi (Scalar.addi v8 (Scalar.muli (Scf.iv 0#32 1#32 k.val) 2#32)) (BitVec.ofNat 32 (0 : Fin 2).val)
        then v80 (ix2 i d) * x (ix2 i e) else 0 := by
  unfold k0_pay12 k0_pay11 k0_pay1
  pointwise
  simp only [select_eq]

/-- The trip's first label, second weight. -/
theorem pay13_at :
    k0_pay13 x v6 v8 v10 (k0_pay1 x v80 v81) 0#32 1#32 k s (ix3 0 d e) = s (ix3 0 d e) +
      ∑ i : Fin 1024, if v6 (ix2 i 0) = Scalar.addi (Scalar.addi v8 (Scalar.muli (Scf.iv 0#32 1#32 k.val) 2#32)) (BitVec.ofNat 32 (0 : Fin 2).val)
        then x (ix2 i d) * v81 (ix2 i 0) * x (ix2 i e) else 0 := by
  unfold k0_pay13 k0_pay11 k0_pay1
  pointwise
  simp only [select_eq]

/-- The trip's second label, first weight. -/
theorem pay3_at :
    k0_pay3 x v80 v81 (Scalar.ofBits .f32 0x00000000#32) (k0_pay14 v6 v8 v10 0#32 1#32 k) s (ix3 0 d e) = s (ix3 0 d e) +
      ∑ i : Fin 1024, if v6 (ix2 i 0) = Scalar.addi (Scalar.addi v8 (Scalar.muli (Scf.iv 0#32 1#32 k.val) 2#32)) (BitVec.ofNat 32 (1 : Fin 2).val)
        then v80 (ix2 i d) * x (ix2 i e) else 0 := by
  unfold k0_pay3 k0_pay2 k0_pay1 k0_pay14
  pointwise
  simp only [select_eq]

/-- The trip's second label, second weight. -/
theorem pay4_at :
    k0_pay4 x v80 v81 (Scalar.ofBits .f32 0x00000000#32) (k0_pay14 v6 v8 v10 0#32 1#32 k) s (ix3 0 d e) = s (ix3 0 d e) +
      ∑ i : Fin 1024, if v6 (ix2 i 0) = Scalar.addi (Scalar.addi v8 (Scalar.muli (Scf.iv 0#32 1#32 k.val) 2#32)) (BitVec.ofNat 32 (1 : Fin 2).val)
        then x (ix2 i d) * v81 (ix2 i 0) * x (ix2 i e) else 0 := by
  unfold k0_pay4 k0_pay2 k0_pay1 k0_pay14
  pointwise
  simp only [select_eq]
end Slabs

/-- The second moments of the block's rows that carry the label `l`, with weight column `j`. -/
def moment (z : Vec Ideal S1024x1 .i32) (x : Vec Ideal S1024x64 .f32) (r : Vec Ideal S1024x2 .f32) (l : ℕ) (j : Fin 2) (d e : Fin 64) : EReal :=
  ∑ i : Fin 1024, if z (ix2 i 0) = BitVec.ofNat 32 l then x (ix2 i d) * r (ix2 i j) * x (ix2 i e) else 0

/-- A label the block does not hold has no second moment. -/
theorem moment_absent {z : Vec Ideal S1024x1 .i32} (x : Vec Ideal S1024x64 .f32) (r : Vec Ideal S1024x2 .f32) {l : ℕ} (hl : l < 2 ^ 32)
    (h : ∀ i : Fin 1024, (z (ix2 i 0)).toNat ≠ l) (j : Fin 2) (d e : Fin 64) : moment z x r l j d e = 0 := by
  refine Finset.sum_eq_zero fun i _ => if_neg fun he => h i ?_
  rw [he, BitVec.toNat_ofNat, Nat.mod_eq_of_lt hl]

section Trips
variable {z : Vec Ideal S1024x1 .i32} (x : Vec Ideal S1024x64 .f32) (r : Vec Ideal S1024x2 .f32) {a b : BitVec 32} (hw : k0_chk1 a b)

/-- One trip, entry by entry: each of its four rows gains the second moments of its label and weight. -/
theorem trip_raw (hab : a.toNat ≤ b.toNat) (hb : b.toNat < 32) (k : Fin (k0_t1_loop a b).trips) (C : Vec Ideal S64x64x64 .f32) (g d e : Fin 64)
    (o : Fin 2 → Fin 2 → Fin 64) (ho : ∀ u j, (o u j).val = min (a.toNat + 2 * k.val + u.val) 31 * 2 + j.val) :
    tripStep x (k0_pay22 z) a b hw (k0_pay31 x r) (k0_pay32 r) k C (ix3 g d e) =
      C (ix3 g d e) + (if g = o 0 0 then moment z x r (a.toNat + 2 * k.val + 0) 0 d e else 0)
        + (if g = o 0 1 then moment z x r (a.toNat + 2 * k.val + 0) 1 d e else 0)
        + (if g = o 1 0 then moment z x r (a.toNat + 2 * k.val + 1) 0 d e else 0)
        + (if g = o 1 1 then moment z x r (a.toNat + 2 * k.val + 1) 1 d e else 0) := by
  have hk : k.val < 16 := by
    have := k.isLt
    have := trips_eq hab hb
    omega
  have hword : ∀ u : Fin 2, Scalar.addi (Scalar.addi a (Scalar.muli (Scf.iv 0#32 1#32 k.val) 2#32)) (BitVec.ofNat 32 u.val)
      = BitVec.ofNat 32 (a.toNat + 2 * k.val + u.val) := by
    intro u
    have h := word_trip_fin ⟨a.toNat, by omega⟩ ⟨k.val, hk⟩ u
    have ha : BitVec.ofNat 32 a.toNat = a := by simp
    simp only [ha] at h
    exact h
  have hoff : ∀ u j : Fin 2, k0_off1 a b k (BitVec.ofNat 32 u.val) (BitVec.ofNat 32 j.val) = ![(o u j).val, 0, 0] := fun u j => by
    rw [off_eq hab hb k u j, ho u j]
  have h80 : ∀ i : Fin 1024, k0_pay31 x r (ix2 i d) = x (ix2 i d) * r (ix2 i 0) := fun i => by
    unfold k0_pay31
    pointwise
  have h81 : ∀ i : Fin 1024, k0_pay32 r (ix2 i 0) = r (ix2 i 1) := fun i => by
    unfold k0_pay32
    pointwise
  have h22 : ∀ i : Fin 1024, k0_pay22 z (ix2 i 0) = z (ix2 i 0) := fun i => by
    unfold k0_pay22
    pointwise
  unfold tripStep
  dsimp only
  refine (put_added _ _ (o 1 1) (hoff 1 1) (k0_off1_inb a b hw k 1 1) _ (moment z x r (a.toNat + 2 * k.val + 1) 1 d e) g d e ?_).trans (congrArg (· + _) ?_)
  · rw [pay4_at, hword 1]
    simp only [h81, h22]
    rfl
  refine (put_added _ _ (o 1 0) (hoff 1 0) (k0_off1_inb a b hw k 1 0) _ (moment z x r (a.toNat + 2 * k.val + 1) 0 d e) g d e ?_).trans (congrArg (· + _) ?_)
  · rw [pay3_at, hword 1]
    simp only [h80, h22]
    rfl
  refine (put_added _ _ (o 0 1) (hoff 0 1) (k0_off1_inb a b hw k 0 1) _ (moment z x r (a.toNat + 2 * k.val + 0) 1 d e) g d e ?_).trans (congrArg (· + _) ?_)
  · rw [pay13_at, hword 0]
    simp only [h81, h22]
    rfl
  refine put_added _ _ (o 0 0) (hoff 0 0) (k0_off1_inb a b hw k 0 0) _ (moment z x r (a.toNat + 2 * k.val + 0) 0 d e) g d e ?_
  rw [pay12_at, hword 0]
  simp only [h80, h22]
  rfl

/-- One trip: a group gains its second moments when its label is one of the trip's two. -/
theorem trip_at (hab : a.toNat ≤ b.toNat) (hb : b.toNat < 32) (hz : ∀ i : Fin 1024, (z (ix2 i 0)).toNat ≤ b.toNat)
    (k : Fin (k0_t1_loop a b).trips) (C : Vec Ideal S64x64x64 .f32) (g d e : Fin 64) :
    tripStep x (k0_pay22 z) a b hw (k0_pay31 x r) (k0_pay32 r) k C (ix3 g d e) =
      C (ix3 g d e) + if a.toNat + 2 * k.val ≤ g.val / 2 ∧ g.val / 2 < a.toNat + 2 * k.val + 2 then moment z x r (g.val / 2) (colOf g) d e else 0 := by
  have hk : a.toNat + 2 * k.val ≤ 31 := by
    have := k.isLt
    have := trips_eq hab hb
    omega
  rw [trip_raw x r hw hab hb k C g d e (fun u j => ⟨min (a.toNat + 2 * k.val + u.val) 31 * 2 + j.val, by have := j.isLt; omega⟩) (fun u j => rfl)]
  have hc : ∀ (u j : Fin 2), (g = (⟨min (a.toNat + 2 * k.val + u.val) 31 * 2 + j.val, by have := j.isLt; omega⟩ : Fin 64)) ↔
      (g.val / 2 = min (a.toNat + 2 * k.val + u.val) 31 ∧ colOf g = j) := by
    intro u j
    rw [Fin.ext_iff, Fin.ext_iff]
    show g.val = _ + j.val ↔ _ ∧ g.val % 2 = j.val
    have := j.isLt
    omega
  simp only [hc]
  have hg := g.isLt
  have hcol : colOf g = 0 ∨ colOf g = 1 := by
    rcases Nat.mod_two_eq_zero_or_one g.val with h | h
    · exact Or.inl (Fin.ext h)
    · exact Or.inr (Fin.ext h)
  have h32 : ∀ j, a.toNat + 2 * k.val + 1 = 32 → moment z x r (a.toNat + 2 * k.val + 1) j d e = 0 := fun j h =>
    moment_absent x r (by omega) (fun i => by have := hz i; omega) j d e
  have v0 : ((0 : Fin 2) : ℕ) = 0 := rfl
  have v1 : ((1 : Fin 2) : ℕ) = 1 := rfl
  have n01 : ¬ (0 : Fin 2) = 1 := by decide
  have n10 : ¬ (1 : Fin 2) = 0 := by decide
  have m0 : min (a.toNat + 2 * k.val + 0) 31 = a.toNat + 2 * k.val := by omega
  rw [v0, v1, m0]
  by_cases h31 : a.toNat + 2 * k.val + 1 = 32
  · have m1 : min (a.toNat + 2 * k.val + 1) 31 = a.toNat + 2 * k.val := by omega
    rw [m1, h32 0 h31, h32 1 h31]
    simp only [ite_self, add_zero]
    by_cases hq : g.val / 2 = a.toNat + 2 * k.val
    · rw [if_pos (show a.toNat + 2 * k.val ≤ g.val / 2 ∧ g.val / 2 < a.toNat + 2 * k.val + 2 by omega)]
      rcases hcol with h | h <;> simp [h, hq, n01, n10]
    · rw [if_neg (show ¬ (a.toNat + 2 * k.val ≤ g.val / 2 ∧ g.val / 2 < a.toNat + 2 * k.val + 2) by omega)]
      simp [hq]
  · have m1 : min (a.toNat + 2 * k.val + 1) 31 = a.toNat + 2 * k.val + 1 := by omega
    rw [m1]
    by_cases hq : g.val / 2 = a.toNat + 2 * k.val
    · rw [if_pos (show a.toNat + 2 * k.val ≤ g.val / 2 ∧ g.val / 2 < a.toNat + 2 * k.val + 2 by omega)]
      rcases hcol with h | h <;> simp [h, hq, n01, n10]
    · by_cases hq' : g.val / 2 = a.toNat + 2 * k.val + 1
      · rw [if_pos (show a.toNat + 2 * k.val ≤ g.val / 2 ∧ g.val / 2 < a.toNat + 2 * k.val + 2 by omega)]
        rcases hcol with h | h <;> simp [h, hq', n01, n10]
      · rw [if_neg (show ¬ (a.toNat + 2 * k.val ≤ g.val / 2 ∧ g.val / 2 < a.toNat + 2 * k.val + 2) by omega)]
        simp [hq, hq']

/-- After `n` trips the groups of the first `2 n` labels from the block's first on have gained their second moments. -/
theorem trips_at (hab : a.toNat ≤ b.toNat) (hb : b.toNat < 32) (hz : ∀ i : Fin 1024, (z (ix2 i 0)).toNat ≤ b.toNat)
    (C : Vec Ideal S64x64x64 .f32) (g d e : Fin 64) : ∀ n ≤ (k0_t1_loop a b).trips,
    segState x (k0_pay22 z) a b hw (k0_pay31 x r) (k0_pay32 r) C n (ix3 g d e) =
      C (ix3 g d e) + if a.toNat ≤ g.val / 2 ∧ g.val / 2 < a.toNat + 2 * n then moment z x r (g.val / 2) (colOf g) d e else 0 := by
  intro n
  induction n with
  | zero =>
    intro _
    rw [if_neg (by omega), add_zero]
    rfl
  | succ n ih =>
    intro hn
    rw [segState, dif_pos (show n < _ by omega), trip_at x r hw hab hb hz ⟨n, by omega⟩ _ g d e, ih (by omega), add_assoc]
    congr 1
    show _ + (if a.toNat + 2 * n ≤ g.val / 2 ∧ g.val / 2 < a.toNat + 2 * n + 2 then _ else _) = _
    by_cases h1 : a.toNat ≤ g.val / 2 ∧ g.val / 2 < a.toNat + 2 * n
    · rw [if_pos h1, if_neg (by omega), if_pos (by omega), add_zero]
    · by_cases h2 : a.toNat + 2 * n ≤ g.val / 2 ∧ g.val / 2 < a.toNat + 2 * n + 2
      · rw [if_neg h1, if_pos h2, if_pos (by omega), zero_add]
      · rw [if_neg h1, if_neg h2, if_neg (by omega), zero_add]

end Trips

/-- A block adds to every group the second moments of the rows that carry the group's label. -/
theorem covStep_at (z : Vec Ideal S1024x1 .i32) (x : Vec Ideal S1024x64 .f32) (r : Vec Ideal S1024x2 .f32) (hw : k0_chk1 (zlo z) (zhi z))
    (hz : ∀ i : Fin 1024, (zlo z).toNat ≤ (z (ix2 i 0)).toNat ∧ (z (ix2 i 0)).toNat ≤ (zhi z).toNat ∧ (zhi z).toNat < 32)
    (C : Vec Ideal S64x64x64 .f32) (g d e : Fin 64) :
    segState x (k0_pay22 z) (zlo z) (zhi z) hw (k0_pay31 x r) (k0_pay32 r) C (k0_t1_loop (zlo z) (zhi z)).trips (ix3 g d e) =
      C (ix3 g d e) + ∑ i : Fin 1024, if z (ix2 i 0) = labelOf g then x (ix2 i d) * r (ix2 i (colOf g)) * x (ix2 i e) else 0 := by
  have hab : (zlo z).toNat ≤ (zhi z).toNat := le_trans (hz 0).1 (hz 0).2.1
  have hb : (zhi z).toNat < 32 := (hz 0).2.2
  have ht := trips_eq hab hb
  rw [trips_at x r hw hab hb (fun i => (hz i).2.1) C g d e _ (le_refl _)]
  congr 1
  by_cases h : (zlo z).toNat ≤ g.val / 2 ∧ g.val / 2 < (zlo z).toNat + 2 * (k0_t1_loop (zlo z) (zhi z)).trips
  · rw [if_pos h]
    rfl
  · rw [if_neg h]
    refine (moment_absent x r (by have := g.isLt; omega) (fun i => ?_) (colOf g) d e).symm
    have := hz i
    omega

end Cert.KernelIdeal.Hand

end
-- ==== Proof.FinalIdeal.lean ====
/-
  The results of the kernel over the extended reals: the counts, the weighted sums and the second moments of
  every group as sums over all the rows that carry its label, and the means and covariances made of them.
-/
module

public import proofs.«01_k».proof.Proof.BlocksIdeal
public import proofs.«01_k».proof.Proof.TripIdeal

@[expose] public section

set_option maxRecDepth 65536

noncomputable section

namespace Cert.KernelIdeal.Hand

open Idealize.ShloMosaic Idealize.ShloMosaic.TcCoe Idealize.ShloMosaic.Tactic
open Idealize.SL.Sem
open Cert.KernelIdeal Cert.KernelIdeal.Facts Cert.KernelIdeal.Gen

/-- A quantity that starts at zero and gains a block's rows at each point is, after the last, the sum over all rows. -/
theorem sum_blocks (f : Fin 16384 → EReal) (A : ℕ → EReal) (h0 : A 0 = 0)
    (hs : ∀ t : Fin cfg0.N, A (t.val + 1) = A t.val + ∑ i : Fin 1024, f (row t i)) : A 16 = ∑ n : Fin 16384, f n := by
  have key : ∀ n ≤ 16, A n = ∑ k ∈ Finset.range (1024 * n), if h : k < 16384 then f ⟨k, h⟩ else 0 := by
    intro n
    induction n with
    | zero => intro _; simpa using h0
    | succ n ih =>
      intro hn
      have ht : n < cfg0.N := Nat.lt_of_lt_of_eq (by omega) (show (16 : ℕ) = cfg0.N from N_0.symm)
      rw [hs ⟨n, ht⟩, ih (by omega), Nat.mul_succ, Finset.sum_range_add, Finset.sum_range (n := 1024)]
      refine congrArg _ (Finset.sum_congr rfl fun i _ => ?_)
      rw [dif_pos (show 1024 * n + i.val < 16384 by have := i.isLt; omega)]
      rfl
  rw [key 16 (le_refl _), Finset.sum_range]
  exact Finset.sum_congr rfl fun i _ => dif_pos i.isLt

/-- The weights of the rows labelled with the group's label, added. -/
def count (z : Vec Ideal ⟨1, ![16384]⟩ .i32) (r : Vec Ideal ⟨2, ![16384, 2]⟩ .f32) (g : Fin 64) : EReal :=
  ∑ n : Fin 16384, if z (ix1 n) = labelOf g then r (ix2 n (colOf g)) else 0

/-- The weighted points of those rows, added. -/
def first (x : Vec Ideal ⟨2, ![16384, 64]⟩ .f32) (z : Vec Ideal ⟨1, ![16384]⟩ .i32) (r : Vec Ideal ⟨2, ![16384, 2]⟩ .f32) (g d : Fin 64) : EReal :=
  ∑ n : Fin 16384, if z (ix1 n) = labelOf g then r (ix2 n (colOf g)) * x (ix2 n d) else 0

/-- The weighted products of the coordinates of those rows, added. -/
def second (x : Vec Ideal ⟨2, ![16384, 64]⟩ .f32) (z : Vec Ideal ⟨1, ![16384]⟩ .i32) (r : Vec Ideal ⟨2, ![16384, 2]⟩ .f32) (g d e : Fin 64) : EReal :=
  ∑ n : Fin 16384, if z (ix1 n) = labelOf g then x (ix2 n d) * r (ix2 n (colOf g)) * x (ix2 n e) else 0

/-- The small constant that keeps the quotients away from zero. -/
abbrev tiny : EReal := Scalar.ofBits (F := Ideal) .f32 0x358637BD#32

section Running
variable (m : (ℓ : Loc nD τ sig) → Buf (Elt Ideal) ℓ) (c : Dev nD)

/-- After all the blocks the running counts are the counts. -/
theorem nsAt_end (g : Fin 64) : nsAt m c 16 (ix2 g 0) = count (m ((c : Thread nD τ).loc main_arg1)) (m ((c : Thread nD τ).loc main_arg2)) g := by
  refine sum_blocks _ (fun n => nsAt m c n (ix2 g 0)) ?_ fun t => ?_
  · show k0_pay19 (ix2 g 0) = _
    unfold k0_pay19
    pointwise
  · show nsAt m c (t.val + 1) (ix2 g 0) = nsAt m c t.val (ix2 g 0) + _
    rw [nsAt_succ, nsStep_at]
    simp only [zB_at, rB_at]

/-- After all the blocks the running sums are the weighted sums. -/
theorem musAt_end (g d : Fin 64) : musAt m c 16 (ix2 g d) =
    first (m ((c : Thread nD τ).loc main_arg0)) (m ((c : Thread nD τ).loc main_arg1)) (m ((c : Thread nD τ).loc main_arg2)) g d := by
  refine sum_blocks _ (fun n => musAt m c n (ix2 g d)) ?_ fun t => ?_
  · show k0_pay20 (ix2 g d) = _
    unfold k0_pay20
    pointwise
  · show musAt m c (t.val + 1) (ix2 g d) = musAt m c t.val (ix2 g d) + _
    rw [musAt_succ, musStep_at]
    simp only [zB_at, rB_at, xB_at]

/-- After all the blocks the running second moments are the second moments. -/
theorem covAt_end (H : Fits m) (h : Ordered m) (g d e : Fin 64) : covAt m H c 16 (ix3 g d e) =
    second (m ((c : Thread nD τ).loc main_arg0)) (m ((c : Thread nD τ).loc main_arg1)) (m ((c : Thread nD τ).loc main_arg2)) g d e := by
  refine sum_blocks _ (fun n => covAt m H c n (ix3 g d e)) ?_ fun t => ?_
  · show k0_pay21 (ix3 g d e) = _
    unfold k0_pay21
    pointwise
  · show covAt m H c (t.val + 1) (ix3 g d e) = covAt m H c t.val (ix3 g d e) + _
    rw [covAt_succ]
    unfold covStep
    rw [covStep_at _ _ _ _ (between h c t)]
    simp only [zB_at, rB_at, xB_at]

end Running

/-- The means: the weighted sums over the counts. -/
theorem pay9_at (ns : Vec Ideal S64x1 .f32) (mus : Vec Ideal S64x64 .f32) (g d : Fin 64) :
    k0_pay9 ns mus (ix2 g d) = Ideal.div (mus (ix2 g d)) (ns (ix2 g 0) + tiny) := by
  unfold k0_pay9 k0_pay8
  pointwise

/-- The covariances: the second moments over the counts less the products of the means. -/
theorem pay10_at (ns : Vec Ideal S64x1 .f32) (mus : Vec Ideal S64x64 .f32) (cov : Vec Ideal S64x64x64 .f32) (g d e : Fin 64) :
    k0_pay10 ns mus cov (ix3 g d e) = Ideal.div (cov (ix3 g d e)) (ns (ix2 g 0) + tiny)
      - Ideal.div (mus (ix2 g d)) (ns (ix2 g 0) + tiny) * Ideal.div (mus (ix2 g e)) (ns (ix2 g 0) + tiny) := by
  unfold k0_pay10 k0_pay9 k0_pay8
  pointwise

/-- The counts of all the groups. -/
def counts (z : Vec Ideal ⟨1, ![16384]⟩ .i32) (r : Vec Ideal ⟨2, ![16384, 2]⟩ .f32) : Vec Ideal S64 .f32 := fun j => count z r (j 0)

/-- The mean of a group in one coordinate. -/
def mean (x : Vec Ideal ⟨2, ![16384, 64]⟩ .f32) (z : Vec Ideal ⟨1, ![16384]⟩ .i32) (r : Vec Ideal ⟨2, ![16384, 2]⟩ .f32) (g d : Fin 64) : EReal :=
  Ideal.div (first x z r g d) (count z r g + tiny)

/-- The means of all the groups. -/
def means (x : Vec Ideal ⟨2, ![16384, 64]⟩ .f32) (z : Vec Ideal ⟨1, ![16384]⟩ .i32) (r : Vec Ideal ⟨2, ![16384, 2]⟩ .f32) : Vec Ideal S64x64 .f32 :=
  fun j => mean x z r (j 0) (j 1)

/-- The covariances of all the groups. -/
def covariances (x : Vec Ideal ⟨2, ![16384, 64]⟩ .f32) (z : Vec Ideal ⟨1, ![16384]⟩ .i32) (r : Vec Ideal ⟨2, ![16384, 2]⟩ .f32) : Vec Ideal S64x64x64 .f32 :=
  fun j => Ideal.div (second x z r (j 0) (j 1) (j 2)) (count z r (j 0) + tiny) - mean x z r (j 0) (j 1) * mean x z r (j 0) (j 2)

section Arrays
variable (m : (ℓ : Loc nD τ sig) → Buf (Elt Ideal) ℓ) (ρ : Dev nD → PrngReg) (H : Fits m) (c : Dev nD)

/-- The blocks of the three results are the results. -/
theorem idx_out : ∀ t : Fin cfg0.N, (cfg0.win 3).index t = ![0, 0] ∧ (cfg0.win 4).index t = ![0, 0] ∧ (cfg0.win 5).index t = ![0, 0, 0] := by
  decide +kernel

/-- The counts' array at the end. -/
theorem arr_ns : (dats m H 0 c).arrAt 3 cfg0.N = nsAt m c 16 := by
  refine (dats m H 0 c).arrAt_eq_of_after_last 3 t0_15 (by decide +kernel) _ fun j => ?_
  blk_simp [idx_out t0_15]
  rw [after_ns]
  rfl

/-- The means' array at the end. -/
theorem arr_mus : (dats m H 0 c).arrAt 4 cfg0.N = k0_pay9 (nsAt m c 16) (musAt m c 16) := by
  refine (dats m H 0 c).arrAt_eq_of_after_last 4 t0_15 (by decide +kernel) _ fun j => ?_
  blk_simp [idx_out t0_15]
  rw [after_mus, musOut, if_pos (show t0_15.val % 16 = 15 from rfl)]
  rfl

/-- The covariances' array at the end. -/
theorem arr_cov : (dats m H 0 c).arrAt 5 cfg0.N = k0_pay10 (nsAt m c 16) (musAt m c 16) (covAt m H c 16) := by
  refine (dats m H 0 c).arrAt_eq_of_after_last 5 t0_15 (by decide +kernel) _ fun j => ?_
  blk_simp [idx_out t0_15]
  rw [after_cov, covOut, if_pos (show t0_15.val % 16 = 15 from rfl)]
  rfl

/-- The counts laid out as one axis. -/
theorem tail_ns : Pipeline.afterTail₀ cfgs (dats m H) 0 (V0 m) [hostOps1] c main_v2 =
    shapeCast S64 (nsAt m c 16) shapeCasts_S64x1_S64 := by
  unfold Pipeline.afterTail₀
  simp only [hostOps1, List.flatten_cons, List.flatten_nil, List.append_nil, StableHlo.after_cons, StableHlo.after_nil]
  rw [StableHlo.reshape_result]
  show shapeCast S64 (Pipeline.withArrays spec0 c (V0 m c) (fun w => (dats m H 0 c).arrAt w cfg0.N) (Proc.tc.devRef (Pipeline.arrRef spec0 3)))
    shapeCasts_S64x1_S64 = _
  rw [Pipeline.withArrays_arr _ launch0.win.arr_inj]
  exact congrArg (fun v => shapeCast S64 v shapeCasts_S64x1_S64) (arr_ns m H c)

/-- The kernel's run under its precondition: its three results are the counts, the means and the covariances. -/
theorem values (h : Ordered m) : θ_run defs (onTc (τ := τ) (main (F := Ideal))) ⟨m, fun _ => 0, ρ⟩ (fun r => ∀ c : Dev nD,
      r.2.mem ((c.tc : Thread nD τ).loc main_v2) = counts (m ((c : Thread nD τ).loc main_arg1)) (m ((c : Thread nD τ).loc main_arg2))
      ∧ r.2.mem ((c.tc : Thread nD τ).loc main_v1_1)
          = means (m ((c : Thread nD τ).loc main_arg0)) (m ((c : Thread nD τ).loc main_arg1)) (m ((c : Thread nD τ).loc main_arg2))
      ∧ r.2.mem ((c.tc : Thread nD τ).loc main_v1_2)
          = covariances (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r hr c => ⟨?_, ?_, ?_, hr.2.1 c⟩) (θ_run_and (run_post m ρ (fits_ordered h)) (keeps m ρ (fits_ordered h)))
  · refine (((hr.1 c).2 main_v2 (Pipeline.mem_restRefs_of main_v2 (by decide) (by decide))).trans (tail_ns m (fits_ordered h) c)).trans ?_
    funext j
    idx_vars j
    pointwise
    exact nsAt_end m c _
  · refine (((hr.1 c).1 4).trans (arr_mus m (fits_ordered h) c)).trans ?_
    funext j
    idx_vars j
    refine (pay9_at _ _ _ _).trans ?_
    rw [nsAt_end, musAt_end]
    rfl
  · refine (((hr.1 c).1 5).trans (arr_cov m (fits_ordered h) c)).trans ?_
    funext j
    idx_vars j
    refine (pay10_at _ _ _ _ _ _).trans ?_
    rw [nsAt_end, musAt_end, musAt_end, covAt_end m c (fits_ordered h) h]
    rfl

end Arrays

end Cert.KernelIdeal.Hand

end
-- ==== Proof.RefIdeal.lean ====
/-
  The reference's operations over the extended reals, read at an index: the segment sums as sums over the rows
  that carry a label, the one-hot contraction as such a sum, and the three results made of them.
-/
module

public import proofs.«01_k».proof.Proof.Gen.ReferenceIdeal
public import proofs.«01_k».proof.Proof.Gen.ReferenceIdeal.Run
public import proofs.«01_k».proof.Proof.FinalIdeal
public import Idealize.ShloMosaic.Lib.Pointwise
public import Idealize.ShloMosaic.Lib.IdealHost
public import Idealize.ShloMosaic.Lib.Routing.OpsPair

@[expose] public section

set_option maxRecDepth 65536

noncomputable section

namespace Cert.ReferenceIdeal.Hand

open Idealize.ShloMosaic Idealize.ShloMosaic.TcCoe
open Cert.ReferenceIdeal Cert.ReferenceIdeal.Facts₀ Cert.ReferenceIdeal.Facts

/-- Where a weight lands in the table of counts. -/
theorem lands_count (idx : IVec S16384x1 32) (n : Fin 16384) (q : Fin 2) (k : Fin 32) (j : Fin 2) :
    scatter_S32x2_S16384x1_S16384x2_1_0_0_1.resultIdx? (ix2 n q) idx = some (ix2 k j : S32x2.Idx) ↔ (idx (ix2 n 0)).toInt = (k.val : Int) ∧ q = j := by
  have s0 : scatter_S32x2_S16384x1_S16384x2_1_0_0_1.start (ix2 n q) idx (0 : Fin 2) = (idx (ix2 n 0)).toInt := by
    unfold ScatterDims.start
    rw [dif_pos (by decide)]
    refine congrArg (fun i => (idx i).toInt) (funext fun b => Fin.ext ?_)
    match b with
    | ⟨0, _⟩ => rfl
    | ⟨1, _⟩ => rfl
  have s1 : scatter_S32x2_S16384x1_S16384x2_1_0_0_1.start (ix2 n q) idx (1 : Fin 2) = 0 := by
    unfold ScatterDims.start
    rw [dif_neg (by decide)]
  have w0 : scatter_S32x2_S16384x1_S16384x2_1_0_0_1.window (ix2 n q) (0 : Fin 2) = 0 := by
    unfold ScatterDims.window
    rw [dif_neg (by decide)]
  have w1 : scatter_S32x2_S16384x1_S16384x2_1_0_0_1.window (ix2 n q) (1 : Fin 2) = q.val := by
    unfold ScatterDims.window
    rw [dif_pos (by decide)]
    rfl
  rw [Routing.resultIdx?_eq_some]
  constructor
  · intro h
    have h0 : scatter_S32x2_S16384x1_S16384x2_1_0_0_1.start (ix2 n q) idx (0 : Fin 2) + (scatter_S32x2_S16384x1_S16384x2_1_0_0_1.window (ix2 n q) (0 : Fin 2) : Int) = (k.val : Int) := h (0 : Fin 2)
    have h1 : scatter_S32x2_S16384x1_S16384x2_1_0_0_1.start (ix2 n q) idx (1 : Fin 2) + (scatter_S32x2_S16384x1_S16384x2_1_0_0_1.window (ix2 n q) (1 : Fin 2) : Int) = (j.val : Int) := h (1 : Fin 2)
    rw [s0, w0] at h0
    rw [s1, w1] at h1
    exact ⟨by omega, Fin.ext (by omega)⟩
  · rintro ⟨h, rfl⟩ a
    match a with
    | ⟨0, _⟩ =>
      show scatter_S32x2_S16384x1_S16384x2_1_0_0_1.start (ix2 n q) idx (0 : Fin 2) + (scatter_S32x2_S16384x1_S16384x2_1_0_0_1.window (ix2 n q) (0 : Fin 2) : Int) = (k.val : Int)
      rw [s0, w0, h]
      omega
    | ⟨1, _⟩ =>
      show scatter_S32x2_S16384x1_S16384x2_1_0_0_1.start (ix2 n q) idx (1 : Fin 2) + (scatter_S32x2_S16384x1_S16384x2_1_0_0_1.window (ix2 n q) (1 : Fin 2) : Int) = (q.val : Int)
      rw [s1, w1]
      omega

/-- Where a weighted point lands in the table of sums. -/
theorem lands_sum (idx : IVec S16384x1 32) (n : Fin 16384) (q : Fin 2) (p : Fin 64) (k : Fin 32) (j : Fin 2) (d : Fin 64) :
    scatter_S32x2x64_S16384x1_S16384x2x64_12_0_0_1.resultIdx? (ix3 n q p) idx = some (ix3 k j d : S32x2x64.Idx) ↔
      (idx (ix2 n 0)).toInt = (k.val : Int) ∧ q = j ∧ p = d := by
  have s0 : scatter_S32x2x64_S16384x1_S16384x2x64_12_0_0_1.start (ix3 n q p) idx (0 : Fin 3) = (idx (ix2 n 0)).toInt := by
    unfold ScatterDims.start
    rw [dif_pos (by decide)]
    refine congrArg (fun i => (idx i).toInt) (funext fun b => Fin.ext ?_)
    match b with
    | ⟨0, _⟩ => rfl
    | ⟨1, _⟩ => rfl
  have s1 : scatter_S32x2x64_S16384x1_S16384x2x64_12_0_0_1.start (ix3 n q p) idx (1 : Fin 3) = 0 := by
    unfold ScatterDims.start
    rw [dif_neg (by decide)]
  have s2 : scatter_S32x2x64_S16384x1_S16384x2x64_12_0_0_1.start (ix3 n q p) idx (2 : Fin 3) = 0 := by
    unfold ScatterDims.start
    rw [dif_neg (by decide)]
  have w0 : scatter_S32x2x64_S16384x1_S16384x2x64_12_0_0_1.window (ix3 n q p) (0 : Fin 3) = 0 := by
    unfold ScatterDims.window
    rw [dif_neg (by decide)]
  have w1 : scatter_S32x2x64_S16384x1_S16384x2x64_12_0_0_1.window (ix3 n q p) (1 : Fin 3) = q.val := by
    unfold ScatterDims.window
    rw [dif_pos (by decide)]
    rfl
  have w2 : scatter_S32x2x64_S16384x1_S16384x2x64_12_0_0_1.window (ix3 n q p) (2 : Fin 3) = p.val := by
    unfold ScatterDims.window
    rw [dif_pos (by decide)]
    rfl
  rw [Routing.resultIdx?_eq_some]
  constructor
  · intro h
    have h0 : scatter_S32x2x64_S16384x1_S16384x2x64_12_0_0_1.start (ix3 n q p) idx (0 : Fin 3) + (scatter_S32x2x64_S16384x1_S16384x2x64_12_0_0_1.window (ix3 n q p) (0 : Fin 3) : Int) = (k.val : Int) := h (0 : Fin 3)
    have h1 : scatter_S32x2x64_S16384x1_S16384x2x64_12_0_0_1.start (ix3 n q p) idx (1 : Fin 3) + (scatter_S32x2x64_S16384x1_S16384x2x64_12_0_0_1.window (ix3 n q p) (1 : Fin 3) : Int) = (j.val : Int) := h (1 : Fin 3)
    have h2 : scatter_S32x2x64_S16384x1_S16384x2x64_12_0_0_1.start (ix3 n q p) idx (2 : Fin 3) + (scatter_S32x2x64_S16384x1_S16384x2x64_12_0_0_1.window (ix3 n q p) (2 : Fin 3) : Int) = (d.val : Int) := h (2 : Fin 3)
    rw [s0, w0] at h0
    rw [s1, w1] at h1
    rw [s2, w2] at h2
    exact ⟨by omega, Fin.ext (by omega), Fin.ext (by omega)⟩
  · rintro ⟨h, rfl, rfl⟩ a
    match a with
    | ⟨0, _⟩ =>
      show scatter_S32x2x64_S16384x1_S16384x2x64_12_0_0_1.start (ix3 n q p) idx (0 : Fin 3) + (scatter_S32x2x64_S16384x1_S16384x2x64_12_0_0_1.window (ix3 n q p) (0 : Fin 3) : Int) = (k.val : Int)
      rw [s0, w0, h]
      omega
    | ⟨1, _⟩ =>
      show scatter_S32x2x64_S16384x1_S16384x2x64_12_0_0_1.start (ix3 n q p) idx (1 : Fin 3) + (scatter_S32x2x64_S16384x1_S16384x2x64_12_0_0_1.window (ix3 n q p) (1 : Fin 3) : Int) = (q.val : Int)
      rw [s1, w1]
      omega
    | ⟨2, _⟩ =>
      show scatter_S32x2x64_S16384x1_S16384x2x64_12_0_0_1.start (ix3 n q p) idx (2 : Fin 3) + (scatter_S32x2x64_S16384x1_S16384x2x64_12_0_0_1.window (ix3 n q p) (2 : Fin 3) : Int) = (p.val : Int)
      rw [s2, w2]
      omega

/-- The segment sum of the weights at label `k`, column `j`. -/
theorem scatter_count (x : Vec Ideal S32x2 .f32) (idx : IVec S16384x1 32) (u : Vec Ideal S16384x2 .f32) (k : Fin 32) (j : Fin 2) :
    Host.scatterAdd (F := Ideal) (φ := .f32) scatter_S32x2_S16384x1_S16384x2_1_0_0_1 x idx u (ix2 k j) =
      x (ix2 k j) + ∑ n : Fin 16384, if (idx (ix2 n 0)).toInt = (k.val : Int) then u (ix2 n j) else 0 := by
  show x (ix2 k j) + ∑ i ∈ Finset.univ.filter _, u i = _
  rw [Finset.sum_filter, sum_idx2]
  refine congrArg _ (Finset.sum_congr rfl fun n _ => ?_)
  simp only [lands_count]
  by_cases h : (idx (ix2 n 0)).toInt = (k.val : Int)
  · simp [h]
  · simp [h]

/-- The segment sum of the weighted points at label `k`, column `j`, coordinate `d`. -/
theorem scatter_sum (x : Vec Ideal S32x2x64 .f32) (idx : IVec S16384x1 32) (u : Vec Ideal S16384x2x64 .f32) (k : Fin 32) (j : Fin 2) (d : Fin 64) :
    Host.scatterAdd (F := Ideal) (φ := .f32) scatter_S32x2x64_S16384x1_S16384x2x64_12_0_0_1 x idx u (ix3 k j d) =
      x (ix3 k j d) + ∑ n : Fin 16384, if (idx (ix2 n 0)).toInt = (k.val : Int) then u (ix3 n j d) else 0 := by
  show x (ix3 k j d) + ∑ i ∈ Finset.univ.filter _, u i = _
  rw [Finset.sum_filter, sum_idx3]
  refine congrArg _ (Finset.sum_congr rfl fun n _ => ?_)
  simp only [lands_sum]
  by_cases h : (idx (ix2 n 0)).toInt = (k.val : Int)
  · simp only [h, true_and, if_true]
    rw [Finset.sum_eq_single j (fun q _ hq => Finset.sum_eq_zero fun p _ => if_neg fun e => hq e.1) (fun hj => absurd (Finset.mem_univ j) hj)]
    simp
  · simp [h]

open Cert.KernelIdeal.Hand (labelOf colOf count first second tiny counts mean means covariances)

/-- A word read signed is the number of a group's label exactly when it is that label's word. -/
theorem toInt_label (w : BitVec 32) (g : Fin 64) : w.toInt = ((g.val / 2 : ℕ) : Int) ↔ w = labelOf g := by
  have e := (by decide +kernel : ∀ g : Fin 64, (labelOf g).toInt = ((g.val / 2 : ℕ) : Int)) g
  constructor
  · intro h
    exact BitVec.eq_of_toInt_eq (h.trans e.symm)
  · rintro rfl
    exact e

/-- The one-hot entry of a label: one where the words agree, zero elsewhere. -/
theorem one_hot (a b : BitVec 32) : FloatOps.uitofp (F := Ideal) FTy.f32 (IntOp.cmpi CmpIPredicate.eq a b) = if a = b then (1 : EReal) else 0 := by
  by_cases h : a = b
  · subst h
    show (((IntOp.cmpi CmpIPredicate.eq a a).toNat : ℝ) : EReal) = _
    simp [IntOp.cmpi]
  · show (((IntOp.cmpi CmpIPredicate.eq a b).toNat : ℝ) : EReal) = _
    simp [IntOp.cmpi, h, beq_false_of_ne h]

section Results
variable (x : Vec Ideal S16384x64 .f32) (z : Vec Ideal S16384 .i32) (r : Vec Ideal S16384x2 .f32)

/-- The reference's counts. -/
theorem counts_eq :
    shapeCast S64 (Host.scatterAdd (F := Ideal) (φ := .f32) scatter_S32x2_S16384x1_S16384x2_1_0_0_1 (broadcastInDim S32x2 ![] bcast_S_S32x2 (constant S_ .f32 0x00000000#32)) (broadcastInDim S16384x1 ![0] bcast_S16384_S16384x1_0 z) r) shapeCasts_S32x2_S64
      = counts z r := by
  funext j
  idx_vars j
  pointwise
  rw [scatter_count]
  pointwise
  show _ = count z r j0
  refine (Finset.sum_congr rfl fun n _ => if_congr (toInt_label _ j0) rfl rfl)

/-- The reference's means, over the counts. -/
theorem means_eq :
    Host.divf (F := Ideal) (φ := .f32) (shapeCast S64x64 (Host.scatterAdd (F := Ideal) (φ := .f32) scatter_S32x2x64_S16384x1_S16384x2x64_12_0_0_1 (broadcastInDim S32x2x64 ![] bcast_S_S32x2x64 (constant S_ .f32 0x00000000#32)) (broadcastInDim S16384x1 ![0] bcast_S16384_S16384x1_0 z) (mulf (F := Ideal) (φ := .f32) (broadcastInDim S16384x2x64 ![0, 1, 2] bcast_S16384x2x1_S16384x2x64_0_1_2 (broadcastInDim S16384x2x1 ![0, 1] bcast_S16384x2_S16384x2x1_0_1 r)) (broadcastInDim S16384x2x64 ![0, 1, 2] bcast_S16384x1x64_S16384x2x64_0_1_2 (broadcastInDim S16384x1x64 ![0, 2] bcast_S16384x64_S16384x1x64_0_2 x)))) shapeCasts_S32x2x64_S64x64) (broadcastInDim S64x64 ![0, 1] bcast_S64x1_S64x64_0_1 (addf (F := Ideal) (φ := .f32) (broadcastInDim S64x1 ![0] bcast_S64_S64x1_0 (counts z r)) (broadcastInDim S64x1 ![] bcast_S_S64x1 (constant S_ .f32 0x358637BD#32))))
      = means x z r := by
  funext j
  idx_vars j
  pointwise
  rw [scatter_sum]
  pointwise
  show _ = Ideal.div (first x z r j0 j1) (count z r j0 + tiny)
  refine congrArg (fun q => Ideal.div q _) (Finset.sum_congr rfl fun n _ => if_congr (toInt_label _ j0) rfl rfl)

/-- The reference's covariances, over the counts and the means. -/
theorem covariances_eq :
    subf (F := Ideal) (φ := .f32) (Host.divf (F := Ideal) (φ := .f32) (Host.dotGeneral (F := Ideal) (φ₁ := .f32) (φ₂ := .f32) dot_S16384x64x64_S16384x64_S64x64x64_0_0_12_1_n_n none (mulf (F := Ideal) (φ := .f32) (broadcastInDim S16384x64x64 ![0, 1, 2] bcast_S16384x64x1_S16384x64x64_0_1_2 (broadcastInDim S16384x64x1 ![0, 1] bcast_S16384x64_S16384x64x1_0_1 (shapeCast S16384x64 (mulf (F := Ideal) (φ := .f32) (broadcastInDim S16384x32x2 ![0, 1, 2] bcast_S16384x32x1_S16384x32x2_0_1_2 (broadcastInDim S16384x32x1 ![0, 1] bcast_S16384x32_S16384x32x1_0_1 (uitofp (F := Ideal) .f32 (cmpi .eq (broadcastInDim S16384x32 ![0, 1] bcast_S16384x1_S16384x32_0_1 (broadcastInDim S16384x1 ![0] bcast_S16384_S16384x1_0 z)) (broadcastInDim S16384x32 ![0, 1] bcast_S1x32_S16384x32_0_1 (iotaInDim S1x32 32 1)))))) (broadcastInDim S16384x32x2 ![0, 1, 2] bcast_S16384x1x2_S16384x32x2_0_1_2 (broadcastInDim S16384x1x2 ![0, 2] bcast_S16384x2_S16384x1x2_0_2 r))) shapeCasts_S16384x32x2_S16384x64))) (broadcastInDim S16384x64x64 ![0, 1, 2] bcast_S16384x1x64_S16384x64x64_0_1_2 (broadcastInDim S16384x1x64 ![0, 2] bcast_S16384x64_S16384x1x64_0_2 x))) x) (broadcastInDim S64x64x64 ![0, 1, 2] bcast_S64x1x1_S64x64x64_0_1_2 (addf (F := Ideal) (φ := .f32) (broadcastInDim S64x1x1 ![0] bcast_S64_S64x1x1_0 (counts z r)) (broadcastInDim S64x1x1 ![] bcast_S_S64x1x1 (constant S_ .f32 0x358637BD#32))))) (mulf (F := Ideal) (φ := .f32) (broadcastInDim S64x64x64 ![0, 1, 2] bcast_S64x64x1_S64x64x64_0_1_2 (broadcastInDim S64x64x1 ![0, 1] bcast_S64x64_S64x64x1_0_1 (means x z r))) (broadcastInDim S64x64x64 ![0, 1, 2] bcast_S64x1x64_S64x64x64_0_1_2 (broadcastInDim S64x1x64 ![0, 2] bcast_S64x64_S64x1x64_0_2 (means x z r))))
      = covariances x z r := by
  funext j
  idx_vars j
  pointwise
  show _ = Ideal.div (second x z r j0 j1 j2) (count z r j0 + tiny) - mean x z r j0 j1 * mean x z r j0 j2
  refine congrArg (fun q => Ideal.div q _ - _) (Finset.sum_congr rfl fun n _ => ?_)
  rw [one_hot]
  by_cases h : z (ix1 n) = labelOf j0
  · rw [if_pos h, if_pos h, one_mul, mul_comm (r _)]
  · rw [if_neg h, if_neg h, zero_mul, zero_mul, zero_mul]

end Results

open Idealize.SL.Sem

/-- The reference's run: its three results are the counts, the means and the covariances of its arguments. -/
theorem values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v11) = counts (m ((c.tc : Thread nD τ).loc main_arg1)) (m ((c.tc : Thread nD τ).loc main_arg2))
      ∧ r.2.mem ((c.tc : Thread nD τ).loc main_v17)
          = means (m ((c.tc : Thread nD τ).loc main_arg0)) (m ((c.tc : Thread nD τ).loc main_arg1)) (m ((c.tc : Thread nD τ).loc main_arg2))
      ∧ r.2.mem ((c.tc : Thread nD τ).loc main_v41)
          = covariances (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r hr c => ⟨(hr c).1.trans (counts_eq _ _), (hr c).2.1.trans ?_, (hr c).2.2.1.trans ?_, (hr c).2.2.2⟩)
    (Cert.ReferenceIdeal.Value.run m ρ)
  · rw [counts_eq]
    exact means_eq _ _ _
  · unfold Cert.ReferenceIdeal.Value.res_main_v41
    rw [counts_eq, means_eq]
    exact covariances_eq _ _ _

end Cert.ReferenceIdeal.Hand

end
-- ==== Proof.lean ====
/-
  The claims of `Cert.Claim`: the programs keep their arguments and end quiet, and over the extended reals the
  kernel's three results are the reference's.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_labels_in_range
public import proofs.«01_k».proof.Proof.Gen.Pre_sorted_labels
public import proofs.«01_k».proof.Proof.BlocksKernel
public import proofs.«01_k».proof.Proof.BlocksIdeal
public import proofs.«01_k».proof.Proof.FinalIdeal
public import proofs.«01_k».proof.Proof.RefIdeal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel keeps its arguments and ends with every semaphore at zero, where the labels are in range. -/
theorem quiet_kernel : Cert.quiescent_Kernel := fun m ρ h => Cert.Kernel.Hand.keeps m ρ (Cert.Kernel.Hand.fits_ranged h)

/-- So does the kernel at the exact floats. -/
theorem quiet_kernelIdeal : Cert.quiescent_KernelIdeal := fun m ρ h =>
  Cert.KernelIdeal.Hand.keeps m ρ (Cert.KernelIdeal.Hand.fits_ranged h)

/-- So it does where they are in order too. -/
theorem quiet_kernelIdeal_sorted : Cert.quiescent_KernelIdeal_pre_sorted_labels := fun m ρ h =>
  Cert.KernelIdeal.Hand.keeps m ρ (Cert.KernelIdeal.Hand.fits_ordered h)

/-- So does the reference, which declares no semaphore, whatever its arguments. -/
theorem quiet_referenceIdeal : Cert.quiescent_ReferenceIdeal := fun m ρ _ =>
  (θ_run _ _ _).mono (fun r h => ⟨fun c => (h c).2.2.2, sem_eq_zero_of_no_sems (by decide) _⟩)
    (Cert.ReferenceIdeal.Value.run m ρ)

/-- In particular where the labels are sorted. -/
theorem quiet_referenceIdeal_sorted : Cert.quiescent_ReferenceIdeal_pre_sorted_labels := fun m ρ _ =>
  quiet_referenceIdeal m ρ trivial

/-- Over the extended reals, from the same arguments with sorted labels, the kernel and the reference end with the same
counts, means and covariances. -/
theorem same_results : Cert.algebraic_KernelIdeal_ReferenceIdeal_pre_sorted_labels := fun m ρ m' ρ' h same =>
  ⟨fun c => Cert.KernelIdeal.Hand.counts (m (c.tc.loc Cert.KernelIdeal.main_arg1)) (m (c.tc.loc Cert.KernelIdeal.main_arg2)),
    fun c => Cert.KernelIdeal.Hand.means (m (c.tc.loc Cert.KernelIdeal.main_arg0)) (m (c.tc.loc Cert.KernelIdeal.main_arg1))
      (m (c.tc.loc Cert.KernelIdeal.main_arg2)),
    fun c => Cert.KernelIdeal.Hand.covariances (m (c.tc.loc Cert.KernelIdeal.main_arg0)) (m (c.tc.loc Cert.KernelIdeal.main_arg1))
      (m (c.tc.loc Cert.KernelIdeal.main_arg2)),
    Cert.KernelIdeal.Hand.values m ρ h,
    (θ_run _ _ _).mono (fun r hr c => by
      have q := hr c
      rw [(same c).1, (same c).2.1, (same c).2.2] at q
      rw [(same c).1, (same c).2.1, (same c).2.2]
      exact q) (Cert.ReferenceIdeal.Hand.values m' ρ')⟩

/-- Everything claimed. -/
theorem claim : Cert.Claim :=
  ⟨Cert.Kernel.Gen.facts, Cert.KernelIdeal.Gen.facts, Cert.ReferenceIdeal.Gen.facts, Cert.Pre_labels_in_range.Gen.facts,
    Cert.Pre_sorted_labels.Gen.facts, quiet_kernel, quiet_kernelIdeal, quiet_kernelIdeal_sorted, quiet_referenceIdeal,
    quiet_referenceIdeal_sorted, trivial, same_results⟩

end Cert.Proof

end
